-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 1024]⟩ ⟨2, ![1024, 4096]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![1024, 1024]⟩ ⟨2, ![4096, 1024]⟩ 0 4 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v49) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x2048x1024 : Shape := ⟨3, ![1, 2048, 1024]⟩
abbrev S1024x1024 : Shape := ⟨2, ![1024, 1024]⟩
abbrev S1x2048x32x128 : Shape := ⟨4, ![1, 2048, 32, 128]⟩
abbrev S_ : Shape := ⟨0, ![]⟩
abbrev S2048x1024 : Shape := ⟨2, ![2048, 1024]⟩
abbrev S2048x32x128 : Shape := ⟨3, ![2048, 32, 128]⟩
abbrev S2048x8x128 : Shape := ⟨3, ![2048, 8, 128]⟩
abbrev S8x2048x128 : Shape := ⟨3, ![8, 2048, 128]⟩
abbrev S512x1024 : Shape := ⟨2, ![512, 1024]⟩
abbrev S6x512x1024 : Shape := ⟨3, ![6, 512, 1024]⟩
abbrev S6 : Shape := ⟨1, ![6]⟩
abbrev S512x2048 : Shape := ⟨2, ![512, 2048]⟩
abbrev S1024x128 : Shape := ⟨2, ![1024, 128]⟩
abbrev S512x128 : Shape := ⟨2, ![512, 128]⟩
abbrev S1x2048x128 : Shape := ⟨3, ![1, 2048, 128]⟩
abbrev S2048x128 : Shape := ⟨2, ![2048, 128]⟩
abbrev S512 : Shape := ⟨1, ![512]⟩
abbrev S512x1 : Shape := ⟨2, ![512, 1]⟩
abbrev S1 : Shape := ⟨1, ![1]⟩
abbrev S1x512x1024 : Shape := ⟨3, ![1, 512, 1024]⟩

abbrev nBuf : Space → Nat
  | .hbm => 38
  | .vmem => 9
  | .smem => 0
  | _ => 0

abbrev bufTy : (tb : Table) → Fin (tcTables nBuf tb) → BufTy
  | .hbm, ⟨0, _⟩ => ⟨S1x2048x1024, .bf16⟩
  | .hbm, ⟨1, _⟩ => ⟨S1024x1024, .bf16⟩
  | .hbm, ⟨2, _⟩ => ⟨S1x2048x32x128, .bf16⟩
  | .hbm, ⟨3, _⟩ => ⟨S1x2048x32x128, .bf16⟩
  | .hbm, ⟨4, _⟩ => ⟨S1024x1024, .bf16⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S2048x1024, .bf16⟩
  | .hbm, ⟨12, _⟩ => ⟨S2048x32x128, .bf16⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i1⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S2048x8x128, .bf16⟩
  | .hbm, ⟨23, _⟩ => ⟨S2048x32x128, .bf16⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i1⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S2048x8x128, .bf16⟩
  | .hbm, ⟨34, _⟩ => ⟨S8x2048x128, .bf16⟩
  | .hbm, ⟨35, _⟩ => ⟨S8x2048x128, .bf16⟩
  | .hbm, ⟨36, _⟩ => ⟨S2048x1024, .f32⟩
  | .hbm, ⟨37, _⟩ => ⟨S1x2048x1024, .f32⟩
  | .local _ .vmem, ⟨0, _⟩ => ⟨S2048x1024, .bf16⟩
  | .local _ .vmem, ⟨1, _⟩ => ⟨S1024x1024, .bf16⟩
  | .local _ .vmem, ⟨2, _⟩ => ⟨S8x2048x128, .bf16⟩
  | .local _ .vmem, ⟨3, _⟩ => ⟨S8x2048x128, .bf16⟩
  | .local _ .vmem, ⟨4, _⟩ => ⟨S1024x1024, .bf16⟩
  | .local _ .vmem, ⟨5, _⟩ => ⟨S2048x1024, .f32⟩
  | .local _ .vmem, ⟨6, _⟩ => ⟨S512x1024, .bf16⟩
  | .local _ .vmem, ⟨7, _⟩ => ⟨S512x1024, .bf16⟩
  | .local _ .vmem, ⟨8, _⟩ => ⟨S6x512x1024, .bf16⟩
  | _, _ => ⟨S1x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  (ofTc nBuf bufTy 1 18 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_v7 : Ref sig .tc := ⟨.hbm, 14, rfl⟩
abbrev main_c_2 : Ref sig .tc := ⟨.hbm, 15, rfl⟩
abbrev main_v8 : Ref sig .tc := ⟨.hbm, 16, rfl⟩
abbrev main_c_3 : Ref sig .tc := ⟨.hbm, 17, rfl⟩
abbrev main_v9 : Ref sig .tc := ⟨.hbm, 18, rfl⟩
abbrev main_v10 : Ref sig .tc := ⟨.hbm, 19, rfl⟩
abbrev main_c_4 : Ref sig .tc := ⟨.hbm, 20, rfl⟩
abbrev main_c_5 : Ref sig .tc := ⟨.hbm, 21, rfl⟩
abbrev main_v11 : Ref sig .tc := ⟨.hbm, 22, rfl⟩
abbrev main_v12 : Ref sig .tc := ⟨.hbm, 23, rfl⟩
abbrev main_c_6 : Ref sig .tc := ⟨.hbm, 24, rfl⟩
abbrev main_v13 : Ref sig .tc := ⟨.hbm, 25, rfl⟩
abbrev main_c_7 : Ref sig .tc := ⟨.hbm, 26, rfl⟩
abbrev main_v14 : Ref sig .tc := ⟨.hbm, 27, rfl⟩
abbrev main_c_8 : Ref sig .tc := ⟨.hbm, 28, rfl⟩
abbrev main_v15 : Ref sig .tc := ⟨.hbm, 29, rfl⟩
abbrev main_v16 : Ref sig .tc := ⟨.hbm, 30, rfl⟩
abbrev main_c_9 : Ref sig .tc := ⟨.hbm, 31, rfl⟩
abbrev main_c_10 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_16 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_15 : BitVec 32 := 1#32
  let v27 : BitVec 32 := Scalar.muli v14 c1_i32_15
  let v28 : BitVec 32 := Scalar.addi c0_i32_16 v27
  v28.toNat
def k0_dev2 (d0 : Dev nD) : Nat :=
  let c0_i32_19 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_18 : BitVec 32 := 1#32
  let v29 : BitVec 32 := Scalar.muli v25 c1_i32_18
  let v30 : BitVec 32 := Scalar.addi c0_i32_19 v29
  v30.toNat
def k0_off1 (d0 : Dev nD) (c0_i32_669 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1259 : BitVec 32 := Scalar.subi v2 c0_i32_669
  let c4_i32_670 : BitVec 32 := 4#32
  let v1260 : BitVec 32 := Scalar.addi v1259 c4_i32_670
  let c4_i32_671 : BitVec 32 := 4#32
  let c0_i32_672 : BitVec 32 := 0#32
  let v1261 : BitVec 1 := Scalar.cmpi .eq c4_i32_671 c0_i32_672
  let c1_i32_673 : BitVec 32 := 1#32
  let v1262 : BitVec 32 := Scalar.select v1261 c1_i32_673 c4_i32_671
  let v1263 : BitVec 32 := Scalar.remsi v1260 v1262
  let c0_i32_675 : BitVec 32 := 0#32
  let v1265 : BitVec 1 := Scalar.cmpi .slt v1263 c0_i32_675
  let c0_i32_676 : BitVec 32 := 0#32
  let v1266 : BitVec 1 := Scalar.cmpi .slt v1262 c0_i32_676
  let v1267 : BitVec 1 := Scalar.xori v1265 v1266
  let c0_i32_674 : BitVec 32 := 0#32
  let v1264 : BitVec 1 := Scalar.cmpi .ne v1263 c0_i32_674
  let v1268 : BitVec 1 := Scalar.andi v1267 v1264
  let v1269 : BitVec 32 := Scalar.addi v1263 v1262
  let v1270 : BitVec 32 := Scalar.select v1268 v1269 v1263
  let c512_i32_686 : BitVec 32 := 512#32
  let v1284 : BitVec 32 := Scalar.muli v1270 c512_i32_686
  let v1285 : Index := Scalar.indexCast v1284
  let c0_687 : Index := 0#32
  ![v1285.toNat, 0]
def k0_dev3 (d0 : Dev nD) : Nat :=
  let c0_i32_694 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_693 : BitVec 32 := 1#32
  let v1292 : BitVec 32 := Scalar.muli v25 c1_i32_693
  let v1293 : BitVec 32 := Scalar.addi c0_i32_694 v1292
  v1293.toNat
def k0_off2 (d0 : Dev nD) (c0_i32_677 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1271 : BitVec 32 := Scalar.subi v2 c0_i32_677
  let c1_i32_678 : BitVec 32 := 1#32
  let v1272 : BitVec 32 := Scalar.subi v1271 c1_i32_678
  let c4_i32_679 : BitVec 32 := 4#32
  let v1273 : BitVec 32 := Scalar.addi v1272 c4_i32_679
  let c4_i32_680 : BitVec 32 := 4#32
  let c0_i32_681 : BitVec 32 := 0#32
  let v1274 : BitVec 1 := Scalar.cmpi .eq c4_i32_680 c0_i32_681
  let c1_i32_682 : BitVec 32 := 1#32
  let v1275 : BitVec 32 := Scalar.select v1274 c1_i32_682 c4_i32_680
  let v1276 : BitVec 32 := Scalar.remsi v1273 v1275
  let c0_i32_684 : BitVec 32 := 0#32
  let v1278 : BitVec 1 := Scalar.cmpi .slt v1276 c0_i32_684
  let c0_i32_685 : BitVec 32 := 0#32
  let v1279 : BitVec 1 := Scalar.cmpi .slt v1275 c0_i32_685
  let v1280 : BitVec 1 := Scalar.xori v1278 v1279
  let c0_i32_683 : BitVec 32 := 0#32
  let v1277 : BitVec 1 := Scalar.cmpi .ne v1276 c0_i32_683
  let v1281 : BitVec 1 := Scalar.andi v1280 v1277
  let v1282 : BitVec 32 := Scalar.addi v1276 v1275
  let v1283 : BitVec 32 := Scalar.select v1281 v1282 v1276
  let c512_i32_710 : BitVec 32 := 512#32
  let v1310 : BitVec 32 := Scalar.muli v1283 c512_i32_710
  let v1311 : Index := Scalar.indexCast v1310
  let c0_711 : Index := 0#32
  ![v1311.toNat, 0]
def k0_dev4 (d0 : Dev nD) : Nat :=
  let c0_i32_742 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_741 : BitVec 32 := 1#32
  let v1354 : BitVec 32 := Scalar.muli v25 c1_i32_741
  let v1355 : BitVec 32 := Scalar.addi c0_i32_742 v1354
  v1355.toNat
def k0_dev5 (d0 : Dev nD) : Nat :=
  let c0_i32_790 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_789 : BitVec 32 := 1#32
  let v1416 : BitVec 32 := Scalar.muli v25 c1_i32_789
  let v1417 : BitVec 32 := Scalar.addi c0_i32_790 v1416
  v1417.toNat
def k0_off3 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_813 : BitVec 32 := 1#32
  let v1445 : BitVec 32 := Scalar.addi v2 c1_i32_813
  let c0_i32_814 : BitVec 32 := 0#32
  let v1446 : BitVec 32 := Scalar.subi v1445 c0_i32_814
  let c4_i32_815 : BitVec 32 := 4#32
  let v1447 : BitVec 32 := Scalar.addi v1446 c4_i32_815
  let c4_i32_816 : BitVec 32 := 4#32
  let c0_i32_817 : BitVec 32 := 0#32
  let v1448 : BitVec 1 := Scalar.cmpi .eq c4_i32_816 c0_i32_817
  let c1_i32_818 : BitVec 32 := 1#32
  let v1449 : BitVec 32 := Scalar.select v1448 c1_i32_818 c4_i32_816
  let v1450 : BitVec 32 := Scalar.remsi v1447 v1449
  let c0_i32_820 : BitVec 32 := 0#32
  let v1452 : BitVec 1 := Scalar.cmpi .slt v1450 c0_i32_820
  let c0_i32_821 : BitVec 32 := 0#32
  let v1453 : BitVec 1 := Scalar.cmpi .slt v1449 c0_i32_821
  let v1454 : BitVec 1 := Scalar.xori v1452 v1453
  let c0_i32_819 : BitVec 32 := 0#32
  let v1451 : BitVec 1 := Scalar.cmpi .ne v1450 c0_i32_819
  let v1455 : BitVec 1 := Scalar.andi v1454 v1451
  let v1456 : BitVec 32 := Scalar.addi v1450 v1449
  let v1457 : BitVec 32 := Scalar.select v1455 v1456 v1450
  let c512_i32_830 : BitVec 32 := 512#32
  let v1470 : BitVec 32 := Scalar.muli v1457 c512_i32_830
  let v1471 : Index := Scalar.indexCast v1470
  let c0_831 : Index := 0#32
  ![v1471.toNat, 0]
def k0_dev6 (d0 : Dev nD) : Nat :=
  let c0_i32_838 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_837 : BitVec 32 := 1#32
  let v1478 : BitVec 32 := Scalar.muli v25 c1_i32_837
  let v1479 : BitVec 32 := Scalar.addi c0_i32_838 v1478
  v1479.toNat
def k0_dev7 (d0 : Dev nD) : Nat :=
  let c0_i32_872 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_871 : BitVec 32 := 1#32
  let v1514 : BitVec 32 := Scalar.muli v25 c1_i32_871
  let v1515 : BitVec 32 := Scalar.addi c0_i32_872 v1514
  v1515.toNat
def k0_dev8 (d0 : Dev nD) : Nat :=
  let c0_i32_913 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_912 : BitVec 32 := 1#32
  let v1556 : BitVec 32 := Scalar.muli v25 c1_i32_912
  let v1557 : BitVec 32 := Scalar.addi c0_i32_913 v1556
  v1557.toNat
abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x2048x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x2048x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S1x2048x1024 : Shape := ⟨3, ![1, 2048, 1024]⟩
abbrev S1024x4096 : Shape := ⟨2, ![1024, 4096]⟩
abbrev S1x2048x32x128 : Shape := ⟨4, ![1, 2048, 32, 128]⟩
abbrev S4096x1024 : Shape := ⟨2, ![4096, 1024]⟩
abbrev S1x2048x4096 : Shape := ⟨3, ![1, 2048, 4096]⟩
abbrev S2048 : Shape := ⟨1, ![2048]⟩
abbrev S_ : Shape := ⟨0, ![]⟩
abbrev S2048x1 : Shape := ⟨2, ![2048, 1]⟩
abbrev S1x2048 : Shape := ⟨2, ![1, 2048]⟩
abbrev S2048x2048 : Shape := ⟨2, ![2048, 2048]⟩
abbrev S1x32x2048x2048 : Shape := ⟨4, ![1, 32, 2048, 2048]⟩
abbrev S1x1x2048x2048 : Shape := ⟨4, ![1, 1, 2048, 2048]⟩
abbrev S1x32x2048 : Shape := ⟨3, ![1, 32, 2048]⟩
abbrev S1x32x2048x1 : Shape := ⟨4, ![1, 32, 2048, 1]⟩
abbrev S1x1x2048x1 : Shape := ⟨4, ![1, 1, 2048, 1]⟩
abbrev S1x32x128x2048 : Shape := ⟨4, ![1, 32, 128, 2048]⟩

abbrev nBuf : Space → Nat
  | .hbm => 128
  | .vmem => 0
  | .smem => 0
  | _ => 0

abbrev bufTy : (tb : Table) → Fin (tcTables nBuf tb) → BufTy
  | .hbm, ⟨0, _⟩ => ⟨S1x2048x1024, .bf16⟩
  | .hbm, ⟨1, _⟩ => ⟨S1024x4096, .bf16⟩
  | .hbm, ⟨2, _⟩ => ⟨S1x2048x32x128, .bf16⟩
  | .hbm, ⟨3, _⟩ => ⟨S1x2048x32x128, .bf16⟩
  | .hbm, ⟨4, _⟩ => ⟨S4096x1024, .bf16⟩
  | .hbm, ⟨5, _⟩ => ⟨S1x2048x4096, .f32⟩
  | .hbm, ⟨6, _⟩ => ⟨S1x2048x4096, .bf16⟩
  | .hbm, ⟨7, _⟩ => ⟨S1x2048x32x128, .bf16⟩
  | .hbm, ⟨8, _⟩ => ⟨S2048, .i32⟩
  | .hbm, ⟨9, _⟩ => ⟨S_, .i32⟩
  | .hbm, ⟨10, _⟩ => ⟨S_, .i32⟩
  | .hbm, ⟨11, _⟩ => ⟨S2048, .i32⟩
  | .hbm, ⟨12, _⟩ => ⟨S2048, .i32⟩
  | .hbm, ⟨13, _⟩ => ⟨S2048, .i32⟩
  | .hbm, ⟨14, _⟩ => ⟨S_, .i32⟩
  | .hbm, ⟨15, _⟩ => ⟨S2048, .i32⟩
  | .hbm, ⟨16, _⟩ => ⟨S2048, .i1⟩
  | .hbm, ⟨17, _⟩ => ⟨S2048, .i32⟩
  | .hbm, ⟨18, _⟩ => ⟨S2048, .i32⟩
  | .hbm, ⟨19, _⟩ => ⟨S_, .i32⟩
  | .hbm, ⟨20, _⟩ => ⟨S2048, .i32⟩
  | .hbm, ⟨21, _⟩ => ⟨S2048, .i1⟩
  | .hbm, ⟨22, _⟩ => ⟨S2048, .i1⟩
  | .hbm, ⟨23, _⟩ => ⟨S_, .i32⟩
  | .hbm, ⟨24, _⟩ => ⟨S2048, .i32⟩
  | .hbm, ⟨25, _⟩ => ⟨S2048, .i32⟩
  | .hbm, ⟨26, _⟩ => ⟨S2048, .i32⟩
  | .hbm, ⟨27, _⟩ => ⟨S2048x1, .i32⟩
  | .hbm, ⟨28, _⟩ => ⟨S2048, .i32⟩
  | .hbm, ⟨29, _⟩ => ⟨S_, .i32⟩
  | .hbm, ⟨30, _⟩ => ⟨S_, .i32⟩
  | .hbm, ⟨31, _⟩ => ⟨S2048, .i32⟩
  | .hbm, ⟨32, _⟩ => ⟨S2048, .i32⟩
  | .hbm, ⟨33, _⟩ => ⟨S2048, .i32⟩
  | .hbm, ⟨34, _⟩ => ⟨S_, .i32⟩
  | .hbm, ⟨35, _⟩ => ⟨S2048, .i32⟩
  | .hbm, ⟨36, _⟩ => ⟨S2048, .i1⟩
  | .hbm, ⟨37, _⟩ => ⟨S2048, .i32⟩
  | .hbm, ⟨38, _⟩ => ⟨S2048, .i32⟩
  | .hbm, ⟨39, _⟩ => ⟨S_, .i32⟩
  | .hbm, ⟨40, _⟩ => ⟨S2048, .i32⟩
  | .hbm, ⟨41, _⟩ => ⟨S2048, .i1⟩
  | .hbm, ⟨42, _⟩ => ⟨S2048, .i1⟩
  | .hbm, ⟨43, _⟩ => ⟨S_, .i32⟩
  | .hbm, ⟨44, _⟩ => ⟨S2048, .i32⟩
  | .hbm, ⟨45, _⟩ => ⟨S2048, .i32⟩
  | .hbm, ⟨46, _⟩ => ⟨S2048, .i32⟩
  | .hbm, ⟨47, _⟩ => ⟨S1x2048, .i32⟩
  | .hbm, ⟨48, _⟩ => ⟨S2048x2048, .i32⟩
  | .hbm, ⟨49, _⟩ => ⟨S2048x2048, .i32⟩
  | .hbm, ⟨50, _⟩ => ⟨S2048x2048, .i1⟩
  | .hbm, ⟨51, _⟩ => ⟨S_, .i32⟩
  | .hbm, ⟨52, _⟩ => ⟨S1x2048, .i32⟩
  | .hbm, ⟨53, _⟩ => ⟨S1x2048, .i1⟩
  | .hbm, ⟨54, _⟩ => ⟨S2048x2048, .i1⟩
  | .hbm, ⟨55, _⟩ => ⟨S2048x2048, .i1⟩
  | .hbm, ⟨56, _⟩ => ⟨S2048x2048, .i32⟩
  | .hbm, ⟨57, _⟩ => ⟨S2048x2048, .i32⟩
  | .hbm, ⟨58, _⟩ => ⟨S2048x2048, .i32⟩
  | .hbm, ⟨59, _⟩ => ⟨S_, .i32⟩
  | .hbm, ⟨60, _⟩ => ⟨S_, .i32⟩
  | .hbm, ⟨61, _⟩ => ⟨S_, .i32⟩
  | .hbm, ⟨62, _⟩ => ⟨S_, .i1⟩
  | .hbm, ⟨63, _⟩ => ⟨S_, .i32⟩
  | .hbm, ⟨64, _⟩ => ⟨S_, .i32⟩
  | .hbm, ⟨65, _⟩ => ⟨S2048x2048, .i32⟩
  | .hbm, ⟨66, _⟩ => ⟨S2048x2048, .i32⟩
  | .hbm, ⟨67, _⟩ => ⟨S_, .i32⟩
  | .hbm, ⟨68, _⟩ => ⟨S2048x2048, .i32⟩
  | .hbm, ⟨69, _⟩ => ⟨S2048x2048, .i1⟩
  | .hbm, ⟨70, _⟩ => ⟨S_, .i32⟩
  | .hbm, ⟨71, _⟩ => ⟨S2048x2048, .i32⟩
  | .hbm, ⟨72, _⟩ => ⟨S2048x2048, .i1⟩
  | .hbm, ⟨73, _⟩ => ⟨S_, .i32⟩
  | .hbm, ⟨74, _⟩ => ⟨S_, .i1⟩
  | .hbm, ⟨75, _⟩ => ⟨S2048x2048, .i1⟩
  | .hbm, ⟨76, _⟩ => ⟨S2048x2048, .i1⟩
  | .hbm, ⟨77, _⟩ => ⟨S2048x2048, .i1⟩
  | .hbm, ⟨78, _⟩ => ⟨S2048x2048, .i32⟩
  | .hbm, ⟨79, _⟩ => ⟨S2048x2048, .i32⟩
  | .hbm, ⟨80, _⟩ => ⟨S2048x2048, .i32⟩
  | .hbm, ⟨81, _⟩ => ⟨S_, .i32⟩
  | .hbm, ⟨82, _⟩ => ⟨S2048x2048, .i32⟩
  | .hbm, ⟨83, _⟩ => ⟨S2048x2048, .i1⟩
  | .hbm, ⟨84, _⟩ => ⟨S2048x2048, .i1⟩
  | .hbm, ⟨85, _⟩ => ⟨S1x32x2048x2048, .f32⟩
  | .hbm, ⟨86, _⟩ => ⟨S1x32x2048x2048, .bf16⟩
  | .hbm, ⟨87, _⟩ => ⟨S1x32x2048x2048, .f32⟩
  | .hbm, ⟨88, _⟩ => ⟨S_, .f32⟩
  | .hbm, ⟨89, _⟩ => ⟨S1x32x2048x2048, .f32⟩
  | .hbm, ⟨90, _⟩ => ⟨S1x32x2048x2048, .f32⟩
  | .hbm, ⟨91, _⟩ => ⟨S1x1x2048x2048, .i1⟩
  | .hbm, ⟨92, _⟩ => ⟨S_, .f32⟩
  | .hbm, ⟨93, _⟩ => ⟨S_, .f32⟩
  | .hbm, ⟨94, _⟩ => ⟨S1x32x2048x2048, .i1⟩
  | .hbm, ⟨95, _⟩ => ⟨S1x32x2048x2048, .f32⟩
  | .hbm, ⟨96, _⟩ => ⟨S1x32x2048x2048, .f32⟩
  | .hbm, ⟨97, _⟩ => ⟨S_, .f32⟩
  | .hbm, ⟨98, _⟩ => ⟨S1x32x2048, .f32⟩
  | .hbm, ⟨99, _⟩ => ⟨S1x32x2048x1, .f32⟩
  | .hbm, ⟨100, _⟩ => ⟨S1x32x2048x2048, .f32⟩
  | .hbm, ⟨101, _⟩ => ⟨S1x32x2048x2048, .f32⟩
  | .hbm, ⟨102, _⟩ => ⟨S1x32x2048x2048, .f32⟩
  | .hbm, ⟨103, _⟩ => ⟨S_, .i1⟩
  | .hbm, ⟨104, _⟩ => ⟨S2048, .i1⟩
  | .hbm, ⟨105, _⟩ => ⟨S1x1x2048x1, .i1⟩
  | .hbm, ⟨106, _⟩ => ⟨S_, .f32⟩
  | .hbm, ⟨107, _⟩ => ⟨S1x32x2048, .f32⟩
  | .hbm, ⟨108, _⟩ => ⟨S1x32x2048x1, .f32⟩
  | .hbm, ⟨109, _⟩ => ⟨S_, .f32⟩
  | .hbm, ⟨110, _⟩ => ⟨S_, .f32⟩
  | .hbm, ⟨111, _⟩ => ⟨S1x32x2048x1, .i1⟩
  | .hbm, ⟨112, _⟩ => ⟨S1x32x2048x1, .f32⟩
  | .hbm, ⟨113, _⟩ => ⟨S1x32x2048x1, .f32⟩
  | .hbm, ⟨114, _⟩ => ⟨S1x32x2048x2048, .f32⟩
  | .hbm, ⟨115, _⟩ => ⟨S1x32x2048x2048, .f32⟩
  | .hbm, ⟨116, _⟩ => ⟨S1x1x2048x1, .i1⟩
  | .hbm, ⟨117, _⟩ => ⟨S_, .f32⟩
  | .hbm, ⟨118, _⟩ => ⟨S_, .f32⟩
  | .hbm, ⟨119, _⟩ => ⟨S1x32x2048x2048, .i1⟩
  | .hbm, ⟨120, _⟩ => ⟨S1x32x2048x2048, .f32⟩
  | .hbm, ⟨121, _⟩ => ⟨S1x32x2048x2048, .f32⟩
  | .hbm, ⟨122, _⟩ => ⟨S1x2048x32x128, .f32⟩
  | .hbm, ⟨123, _⟩ => ⟨S1x32x128x2048, .f32⟩
  | .hbm, ⟨124, _⟩ => ⟨S1x2048x32x128, .f32⟩
  | .hbm, ⟨125, _⟩ => ⟨S1x2048x4096, .f32⟩
  | .hbm, ⟨126, _⟩ => ⟨S4096x1024, .f32⟩
  | .hbm, ⟨127, _⟩ => ⟨S1x2048x1024, .f32⟩
  | _, _ => ⟨S1x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_0 : Ref sig .tc := ⟨.hbm, 23, rfl⟩
abbrev main_call0_v12 : Ref sig .tc := ⟨.hbm, 24, rfl⟩
abbrev main_call0_v13 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_c_0 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_v6 : Ref sig .tc := ⟨.hbm, 36, rfl⟩
abbrev main_call1_v7 : Ref sig .tc := ⟨.hbm, 37, rfl⟩
abbrev main_call1_v8 : Ref sig .tc := ⟨.hbm, 38, rfl⟩
abbrev main_call1_c : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_c_0 : Ref sig .tc := ⟨.hbm, 43, rfl⟩
abbrev main_call1_v12 : Ref sig .tc := ⟨.hbm, 44, rfl⟩
abbrev main_call1_v13 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_c_1 : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_v18 : Ref sig .tc := ⟨.hbm, 58, rfl⟩
abbrev main_c_2 : Ref sig .tc := ⟨.hbm, 59, rfl⟩
abbrev main_call2_v0 : Ref sig .tc := ⟨.hbm, 60, rfl⟩
abbrev main_call2_c : Ref sig .tc := ⟨.hbm, 61, rfl⟩
abbrev main_call2_v1 : Ref sig .tc := ⟨.hbm, 62, rfl⟩
abbrev main_call2_c_0 : Ref sig .tc := ⟨.hbm, 63, rfl⟩
abbrev main_call2_v2 : Ref sig .tc := ⟨.hbm, 64, rfl⟩
abbrev main_call2_v3 : Ref sig .tc := ⟨.hbm, 65, rfl⟩
abbrev main_call2_v4 : Ref sig .tc := ⟨.hbm, 66, rfl⟩
abbrev main_call2_c_1 : Ref sig .tc := ⟨.hbm, 67, rfl⟩
abbrev main_call2_v5 : Ref sig .tc := ⟨.hbm, 68, rfl⟩
abbrev main_call2_v6 : Ref sig .tc := ⟨.hbm, 69, rfl⟩
abbrev main_call2_c_2 : Ref sig .tc := ⟨.hbm, 70, rfl⟩
abbrev main_call2_v7 : Ref sig .tc := ⟨.hbm, 71, rfl⟩
abbrev main_call2_v8 : Ref sig .tc := ⟨.hbm, 72, rfl⟩
abbrev main_call2_c_3 : Ref sig .tc := ⟨.hbm, 73, rfl⟩
abbrev main_call2_v9 : Ref sig .tc := ⟨.hbm, 74, rfl⟩
abbrev main_call2_v10 : Ref sig .tc := ⟨.hbm, 75, rfl⟩
abbrev main_call2_v11 : Ref sig .tc := ⟨.hbm, 76, rfl⟩
abbrev main_call2_v12 : Ref sig .tc := ⟨.hbm, 77, rfl⟩
abbrev main_call2_v13 : Ref sig .tc := ⟨.hbm, 78, rfl⟩
abbrev main_call2_v14 : Ref sig .tc := ⟨.hbm, 79, rfl⟩
abbrev main_v19 : Ref sig .tc := ⟨.hbm, 80, rfl⟩
abbrev main_c_3 : Ref sig .tc := ⟨.hbm, 81, rfl⟩
abbrev main_v20 : Ref sig .tc := ⟨.hbm, 82, rfl⟩
abbrev main_v21 : Ref sig .tc := ⟨.hbm, 83, rfl⟩
abbrev main_v22 : Ref sig .tc := ⟨.hbm, 84, rfl⟩
abbrev main_v23 : Ref sig .tc := ⟨.hbm, 85, rfl⟩
abbrev main_v24 : Ref sig .tc := ⟨.hbm, 86, rfl⟩
abbrev main_v25 : Ref sig .tc := ⟨.hbm, 87, rfl⟩
abbrev main_cst : Ref sig .tc := ⟨.hbm, 88, rfl⟩
abbrev main_v26 : Ref sig .tc := ⟨.hbm, 89, rfl⟩
abbrev main_v27 : Ref sig .tc := ⟨.hbm, 90, rfl⟩
abbrev main_v28 : Ref sig .tc := ⟨.hbm, 91, rfl⟩
abbrev main_cst_4 : Ref sig .tc := ⟨.hbm, 92, rfl⟩
abbrev main_call3_v0 : Ref sig .tc := ⟨.hbm, 93, rfl⟩
abbrev main_call3_v1 : Ref sig .tc := ⟨.hbm, 94, rfl⟩
abbrev main_call3_v2 : Ref sig .tc := ⟨.hbm, 95, rfl⟩
abbrev main_v29 : Ref sig .tc := ⟨.hbm, 96, rfl⟩
abbrev main_cst_5 : Ref sig .tc := ⟨.hbm, 97, rfl⟩
abbrev main_v30 : Ref sig .tc := ⟨.hbm, 98, rfl⟩
abbrev main_v31 : Ref sig .tc := ⟨.hbm, 99, rfl⟩
abbrev main_v32 : Ref sig .tc := ⟨.hbm, 100, rfl⟩
abbrev main_v33 : Ref sig .tc := ⟨.hbm, 101, rfl⟩
abbrev main_v34 : Ref sig .tc := ⟨.hbm, 102, rfl⟩
abbrev main_c_6 : Ref sig .tc := ⟨.hbm, 103, rfl⟩
abbrev main_v35 : Ref sig .tc := ⟨.hbm, 104, rfl⟩
abbrev main_v36 : Ref sig .tc := ⟨.hbm, 105, rfl⟩
abbrev main_cst_7 : Ref sig .tc := ⟨.hbm, 106, rfl⟩
abbrev main_v37 : Ref sig .tc := ⟨.hbm, 107, rfl⟩
abbrev main_v38 : Ref sig .tc := ⟨.hbm, 108, rfl⟩
abbrev main_cst_8 : Ref sig .tc := ⟨.hbm, 109, rfl⟩
abbrev main_call4_v0 : Ref sig .tc := ⟨.hbm, 110, rfl⟩
abbrev main_call4_v1 : Ref sig .tc := ⟨.hbm, 111, rfl⟩
abbrev main_call4_v2 : Ref sig .tc := ⟨.hbm, 112, rfl⟩
abbrev main_v39 : Ref sig .tc := ⟨.hbm, 113, rfl⟩
abbrev main_v40 : Ref sig .tc := ⟨.hbm, 114, rfl⟩
abbrev main_v41 : Ref sig .tc := ⟨.hbm, 115, rfl⟩
abbrev main_v42 : Ref sig .tc := ⟨.hbm, 116, rfl⟩
abbrev main_cst_9 : Ref sig .tc := ⟨.hbm, 117, rfl⟩
abbrev main_call5_v0 : Ref sig .tc := ⟨.hbm, 118, rfl⟩
abbrev main_call5_v1 : Ref sig .tc := ⟨.hbm, 119, rfl⟩
abbrev main_call5_v2 : Ref sig .tc := ⟨.hbm, 120, rfl⟩
abbrev main_v43 : Ref sig .tc := ⟨.hbm, 121, rfl⟩
abbrev main_v44 : Ref sig .tc := ⟨.hbm, 122, rfl⟩
abbrev main_v45 : Ref sig .tc := ⟨.hbm, 123, rfl⟩
abbrev main_v46 : Ref sig .tc := ⟨.hbm, 124, rfl⟩
abbrev main_v47 : Ref sig .tc := ⟨.hbm, 125, rfl⟩
abbrev main_v48 : Ref sig .tc := ⟨.hbm, 126, rfl⟩
abbrev main_v49 : Ref sig .tc := ⟨.hbm, 127, rfl⟩

abbrev nD : Nat := 1
abbrev τ : Topo := Topo.v7x

variable {F : FTy → Type} [FloatOps F]
-- ==== Proof.Base.lean ====
/-
  The vocabulary that the other modules share: the resource algebra (one copy of the rounds library for the pipeline's
  staging cells, one for the cells through which the devices talk), a buffer held whole, and the two neighbours of a
  device on the ring of four.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import Idealize.ShloMosaic.Lib.Pipeline.Regions
public import Idealize.ShloMosaic.Lib.Pipeline.Kit
public import Idealize.ShloMosaic.Lib.Pipeline.RegionTalk
public import Idealize.ShloMosaic.Lib.Rounds
public import Idealize.ShloMosaic.Lib.StableHlo
public import Idealize.ShloMosaic.Lib.Tactic
public import Idealize.ShloMosaic.PureOps

@[expose] public section

noncomputable section

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The pipeline library's rounds: one duty a round. -/
abbrev UP : Type := URounds (GSem nD τ sig) Unit
/-- The talk's rounds: a duty is numbered 0 or 1, the barrier cell having two in its one round. -/
abbrev UT : Type := URounds (GSem nD τ sig) (Fin 2)
abbrev UU : Type := UP × UT

local notation "𝕄" => MT nD τ sig Unit (Elt F) ℕ UU ℕ

abbrev EP : Emb UP (MT nD τ sig Unit (Elt F) ℕ UU ℕ) := embL
abbrev ER : Emb UT (MT nD τ sig Unit (Elt F) ℕ UU ℕ) := embR

/-- A buffer held whole on core `c` at contents `f`. -/
abbrev pt (c : Dev nD) (b : Ref sig .tc) (f : b.ty.Contents (Elt F)) : sProp 𝕄 :=
  (Memref.whole b).view.loc (c : Thread nD τ) ↦{fullShare} f

/-- The next device on the ring. -/
def rt (c : Dev nD) : Dev nD := ⟨(c.val + 1) % 4, Nat.mod_lt _ (by decide)⟩
/-- The device before. -/
def lt (c : Dev nD) : Dev nD := ⟨(c.val + 3) % 4, Nat.mod_lt _ (by decide)⟩

theorem rt_lt (c : Dev nD) : rt (lt c) = c := by revert c; decide
theorem lt_rt (c : Dev nD) : lt (rt c) = c := by revert c; decide
def ring : Dev nD ≃ Dev nD := ⟨rt, lt, lt_rt, rt_lt⟩

abbrev 𝒱₀ : Variants := Variants.none

end Cert.Proof

end
-- ==== Proof.Attn.lean ====
/-
  The attention part of the body: what a device computes before it talks. Device `c` holds in VMEM the whole of `x`, its
  own columns of `Wq`, its own eight heads of `K` and `V` and its own rows of `Wo`; for each of four tiles of 512 rows it
  computes the eight heads' contexts side by side and multiplies them by its rows of `Wo`. `partialOut` states the
  result; `attn_run` is the run of the parts of the body that compute it.
-/
module

public import proofs.«01_k».proof.Proof.Base
public import Idealize.ShloMosaic.Lib.WritesUnit
public import Idealize.ShloMosaic.Lib.Pipeline.FrameBody

@[expose] public section

noncomputable section

namespace Cert.Proof

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## What the device computes -/

/-- The index of row `r`, column `q`. -/
def at2 {m n : ℕ} (r : ℕ) (q : ℕ) (hr : r < m) (hq : q < n) : (⟨2, ![m, n]⟩ : Shape).Idx :=
  Fin.cons ⟨r, hr⟩ (Fin.cons ⟨q, hq⟩ (fun a => a.elim0))

/-- The block number of each row of a tile whose first row is `r0`: the row over 64, rounded down, as the kernel
computes it with divisions that round to zero. -/
def qblk (r0 : BitVec 32) : IVec S512x2048 32 :=
  have row := addi (iota .tc S512x2048 32 [0] iota_S512x2048_d0_w32) (broadcast S512x2048 r0)
  have quo := divsi row (broadcast S512x2048 64#32)
  have sgn := subi (extui 32 (cmpi .sgt row (broadcast S512x2048 0#32)) natLt_1_32)
    (extui 32 (cmpi .slt row (broadcast S512x2048 0#32)) natLt_1_32)
  have one := broadcast S512x2048 (Scalar.subi (Scalar.extui (Scalar.cmpi .sgt 64#32 0#32) : BitVec 32)
    (Scalar.extui (Scalar.cmpi .slt 64#32 0#32) : BitVec 32))
  have down := andi (cmpi .ne sgn one) (cmpi .ne (remsi row (broadcast S512x2048 64#32)) (broadcast S512x2048 0#32))
  select down (subi quo (broadcast S512x2048 1#32)) quo

/-- Which keys each row of tile `t` attends to. -/
def mask (t : ℕ) : IVec S512x2048 1 := k0_pay6 (qblk (BitVec.ofNat 32 (512 * t))) k0_pay3 k0_pay4 k0_pay5 0#32

theorem inbX (t : ℕ) (ht : t < 4) : ∀ a, (![512 * t, 0] : Fin 2 → ℕ) a + S512x1024.size a ≤ S2048x1024.size a := by
  refine Fin.forall_fin_two.mpr ⟨?_, ?_⟩
  · show 512 * t + 512 ≤ 2048
    omega
  · show 0 + 1024 ≤ 1024
    omega

theorem inbQ (h : ℕ) (hh : h < 8) : ∀ a, (![0, 128 * h] : Fin 2 → ℕ) a + S1024x128.size a ≤ S1024x1024.size a := by
  refine Fin.forall_fin_two.mpr ⟨?_, ?_⟩
  · show 0 + 1024 ≤ 1024
    omega
  · show 128 * h + 128 ≤ 1024
    omega

theorem inbC (h : ℕ) (hh : h < 8) : ∀ a, (![0, 128 * h] : Fin 2 → ℕ) a + S512x128.size a ≤ S512x1024.size a := by
  refine Fin.forall_fin_two.mpr ⟨?_, ?_⟩
  · show 0 + 512 ≤ 512
    omega
  · show 128 * h + 128 ≤ 1024
    omega

theorem inbK (h : ℕ) (hh : h < 8) : ∀ a, (![h, 0, 0] : Fin 3 → ℕ) a + S1x2048x128.size a ≤ S8x2048x128.size a := by
  intro a
  match a with
  | ⟨0, _⟩ => show h + 1 ≤ 8; omega
  | ⟨1, _⟩ => show 0 + 2048 ≤ 2048; omega
  | ⟨2, _⟩ => show 0 + 128 ≤ 128; omega

section Values

variable (x : S2048x1024.Idx → Elt F .bf16) (wq : S1024x1024.Idx → Elt F .bf16) (k v : S8x2048x128.Idx → Elt F .bf16)
  (wo : S1024x1024.Idx → Elt F .bf16)

/-- Head `h` of tile `t`: the rows' queries against the head's keys, masked, through the softmax, times its values. -/
def head (t : ℕ) (ht : t < 4) (h : ℕ) (hh : h < 8) : FVec F S512x128 .bf16 :=
  k0_pay12 (mask t) (k0_pay7 (View.ld x (Rect.unit ![512 * t, 0] S512x1024.size (inbX t ht))))
    (View.ld wq (Rect.unit ![0, 128 * h] S1024x128.size (inbQ h hh)))
    (View.ld k (Rect.unit ![h, 0, 0] S1x2048x128.size (inbK h hh)))
    (View.ld v (Rect.unit ![h, 0, 0] S1x2048x128.size (inbK h hh)))

/-- The eight heads of tile `t` side by side. -/
def ctxT (t : ℕ) (ht : t < 4) : FVec F S512x1024 .bf16 := fun i =>
  head x wq k v t ht ((i (1 : Fin 2)).val / 128) (by have : (i (1 : Fin 2)).val < 1024 := (i (1 : Fin 2)).isLt; omega)
    (at2 (i (0 : Fin 2)).val ((i (1 : Fin 2)).val % 128) (i (0 : Fin 2)).isLt (Nat.mod_lt _ (by decide)))

/-- Tile `t` of the device's partial product. -/
def tileOut (t : ℕ) (ht : t < 4) : FVec F S512x1024 .f32 :=
  k0_pay21 (ctxT x wq k v t ht) (View.ld wo (Rect.unit ![0, 0] S1024x1024.size inb_S1024x1024_S1024x1024_0_0))

/-- The device's partial product: its heads' contexts times its rows of `Wo`. -/
def partialOut : S2048x1024.Idx → Elt F .f32 := fun i =>
  tileOut x wq k v wo ((i (0 : Fin 2)).val / 512) (by have : (i (0 : Fin 2)).val < 2048 := (i (0 : Fin 2)).isLt; omega)
    (at2 ((i (0 : Fin 2)).val % 512) (i (1 : Fin 2)).val (Nat.mod_lt _ (by decide)) (i (1 : Fin 2)).isLt)

/-! ## The stores that leave it -/

/-- The stores of tile `t`'s first `j` heads over the stores `L` before them. -/
def headStores (L : List (View.Piece (Elt F) S512x1024 .bf16)) (t : ℕ) (ht : t < 4) :
    (j : ℕ) → j ≤ 8 → List (View.Piece (Elt F) S512x1024 .bf16)
  | 0, _ => L
  | j + 1, hj => ⟨Rect.unit ![0, 128 * j] S512x128.size (inbC j hj), head x wq k v t ht j hj⟩ ::
      headStores L t ht j (Nat.le_of_succ_le hj)

/-- The stores of the first `j` tiles. -/
def tileStores : (j : ℕ) → j ≤ 4 → List (View.Piece (Elt F) S2048x1024 .f32)
  | 0, _ => []
  | j + 1, hj => ⟨Rect.unit ![512 * j, 0] S512x1024.size (inbX j hj), tileOut x wq k v wo j hj⟩ ::
      tileStores j (Nat.le_of_succ_le hj)

theorem read_headStores (w : View sig .tc .vmem S512x1024 .bf16) (f : w.ty.Contents (Elt F))
    (L : List (View.Piece (Elt F) S512x1024 .bf16)) (t : ℕ) (ht : t < 4) (i : S512x1024.Idx) :
    ∀ (j : ℕ) (hj : j ≤ 8), (i (1 : Fin 2)).val < 128 * j →
      w.read (Elt F) (w.writes (Elt F) f (headStores x wq k v L t ht j hj)) i = ctxT x wq k v t ht i
  | 0, _, h => absurd h (Nat.not_lt_zero _)
  | j + 1, hj, h => by
    by_cases hlt : (i (1 : Fin 2)).val < 128 * j
    · exact (View.read_writes_cons_unit_of_not_mem w f (inbC j hj) _ _ i rfl (1 : Fin 2) (Or.inl hlt)).trans
        (read_headStores w f L t ht i j (Nat.le_of_succ_le hj) hlt)
    · have hd : (i (1 : Fin 2)).val / 128 = j := by omega
      have hm : (i (1 : Fin 2)).val = 128 * j + (i (1 : Fin 2)).val % 128 := by omega
      subst hd
      exact View.read_writes_cons_unit_of_mem w f (inbC _ hj) _ _ i
        (at2 (i (0 : Fin 2)).val ((i (1 : Fin 2)).val % 128) (i (0 : Fin 2)).isLt (Nat.mod_lt _ (by decide))) rfl
        (Fin.forall_fin_two.mpr ⟨(Nat.zero_add _).symm, hm⟩)

theorem read_tileStores (w : View sig .tc .vmem S2048x1024 .f32) (f : w.ty.Contents (Elt F)) (i : S2048x1024.Idx) :
    ∀ (j : ℕ) (hj : j ≤ 4), (i (0 : Fin 2)).val < 512 * j →
      w.read (Elt F) (w.writes (Elt F) f (tileStores x wq k v wo j hj)) i = partialOut x wq k v wo i
  | 0, _, h => absurd h (Nat.not_lt_zero _)
  | j + 1, hj, h => by
    by_cases hlt : (i (0 : Fin 2)).val < 512 * j
    · exact (View.read_writes_cons_unit_of_not_mem w f (inbX j hj) _ _ i rfl (0 : Fin 2) (Or.inl hlt)).trans
        (read_tileStores w f i j (Nat.le_of_succ_le hj) hlt)
    · have hd : (i (0 : Fin 2)).val / 512 = j := by omega
      have hm : (i (0 : Fin 2)).val = 512 * j + (i (0 : Fin 2)).val % 512 := by omega
      subst hd
      exact View.read_writes_cons_unit_of_mem w f (inbX _ hj) _ _ i
        (at2 ((i (0 : Fin 2)).val % 512) (i (1 : Fin 2)).val (Nat.mod_lt _ (by decide)) (i (1 : Fin 2)).isLt) rfl
        (Fin.forall_fin_two.mpr ⟨hm, (Nat.zero_add _).symm⟩)

/-- A load of the whole scratch reads what the stores left. -/
theorem readCov_ctx (L : List (View.Piece (Elt F) S512x1024 .bf16)) (G : S512x1024.Idx → Elt F .bf16)
    (h : ∀ i, (Memref.whole cc0_scratch0).view.read (Elt F)
      ((Memref.whole cc0_scratch0).view.writes (Elt F) (Memref.whole cc0_scratch0).view.junk L) i = G i) :
    (Memref.whole cc0_scratch0).view.readCov L
      (Rect.unit ![0, 0] S512x1024.size inb_S512x1024_S512x1024_0_0).toLoadRect = G :=
  funext fun i => (View.readAt_apply ..).trans ((h _).trans (congrArg G (funext fun a => Fin.ext (by
    match a with
    | ⟨0, _⟩ => show 0 + 1 * _ = _; omega
    | ⟨1, _⟩ => show 0 + 1 * _ = _; omega))))

theorem readCov_headStores (L : List (View.Piece (Elt F) S512x1024 .bf16)) (t : ℕ) (ht : t < 4) :
    (Memref.whole cc0_scratch0).view.readCov (headStores x wq k v L t ht 8 le_rfl)
      (Rect.unit ![0, 0] S512x1024.size inb_S512x1024_S512x1024_0_0).toLoadRect = ctxT x wq k v t ht :=
  readCov_ctx _ _ fun i => read_headStores x wq k v _ _ L t ht i 8 le_rfl (i (1 : Fin 2)).isLt

theorem eq_of_read (b : Ref sig .tc) (f G : b.ty.Contents (Elt F))
    (h : ∀ i, (Memref.whole b).view.read (Elt F) f i = G i) : f = G := funext h

theorem writes_tiles : (Memref.whole cc0_stg5_0).view.writes (Elt F) (Memref.whole cc0_stg5_0).view.junk
    (tileStores x wq k v wo 4 le_rfl) = partialOut x wq k v wo :=
  eq_of_read cc0_stg5_0 _ _ fun i => read_tileStores x wq k v wo _ _ i 4 le_rfl (i (0 : Fin 2)).isLt

end Values

/-! ## The run -/

/-- The parts of the body between the barrier and the ring, followed by `K`. -/
def attnProg (arg0 : Memref sig .tc .vmem S2048x1024 .bf16) (harg0 : arg0.IsWhole) (arg1 : Memref sig .tc .vmem S1024x1024 .bf16) (harg1 : arg1.IsWhole) (arg2 : Memref sig .tc .vmem S8x2048x128 .bf16) (harg2 : arg2.IsWhole) (arg3 : Memref sig .tc .vmem S8x2048x128 .bf16) (harg3 : arg3.IsWhole) (arg4 : Memref sig .tc .vmem S1024x1024 .bf16) (harg4 : arg4.IsWhole) (arg5 : Memref sig .tc .vmem S2048x1024 .f32) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S6x512x1024 .bf16) (harg8 : arg8.IsWhole) (arg9 : DmaSems sig S6) (arg10 : DmaSems sig S6) (v2 : BitVec 32)
    (K : BitVec 32 → BitVec 32 → Prog (TpuEff nD τ sig (Elt F) Λ₀ .tc) PUnit) : Prog (TpuEff nD τ sig (Elt F) Λ₀ .tc) PUnit := do
  let ⟨v57, v60, v74, v76, c0_i32_32⟩ : Σ' (v57 : IVec S512x2048 32) (v60 : IVec S512x2048 32) (v74 : IVec S512x2048 1) (v76 : IVec S512x2048 32), BitVec 32 ← k0_part2 arg0 harg0 arg1 harg1 arg2 harg2 arg3 harg3 arg4 harg4 arg5 harg5 arg6 harg6 arg7 harg7 arg8 harg8 arg9 arg10
  let ⟨v106, v108, v117⟩ : Σ' (v106 : IVec S512x2048 1) (v108 : FVec F S512x1024 .bf16), FVec F S512x2048 .f32 ← k0_part3 arg0 harg0 arg1 harg1 arg2 harg2 arg3 harg3 arg4 harg4 arg5 harg5 arg6 harg6 arg7 harg7 arg8 harg8 arg9 arg10 v57 v60 v74 v76 c0_i32_32
  let v156 : FVec F S512x2048 .f32 ← k0_part4 arg0 harg0 arg1 harg1 arg2 harg2 arg3 harg3 arg4 harg4 arg5 harg5 arg6 harg6 arg7 harg7 arg8 harg8 arg9 arg10 v106 v108 v117
  let v192 : FVec F S512x128 .bf16 ← k0_part5 arg0 harg0 arg1 harg1 arg2 harg2 arg3 harg3 arg4 harg4 arg5 harg5 arg6 harg6 arg7 harg7 arg8 harg8 arg9 arg10 v106 v108 v156
  let v226 : FVec F S512x128 .bf16 ← k0_part6 arg0 harg0 arg1 harg1 arg2 harg2 arg3 harg3 arg4 harg4 arg5 harg5 arg6 harg6 arg7 harg7 arg8 harg8 arg9 arg10 v106 v108 v192
  let v264 : FVec F S512x2048 .f32 ← k0_part7 arg0 harg0 arg1 harg1 arg2 harg2 arg3 harg3 arg4 harg4 arg5 harg5 arg6 harg6 arg7 harg7 arg8 harg8 arg9 arg10 v106 v108 v226
  let v301 : FVec F S512x128 .bf16 ← k0_part8 arg0 harg0 arg1 harg1 arg2 harg2 arg3 harg3 arg4 harg4 arg5 harg5 arg6 harg6 arg7 harg7 arg8 harg8 arg9 arg10 v106 v108 v264
  let v336 : FVec F S512x1024 .f32 ← k0_part9 arg0 harg0 arg1 harg1 arg2 harg2 arg3 harg3 arg4 harg4 arg5 harg5 arg6 harg6 arg7 harg7 arg8 harg8 arg9 arg10 v106 v108 v301
  let ⟨v364, v365, c64_i32_177, v367, v374, v380⟩ : Σ' (v364 : IVec S512x2048 32) (v365 : IVec S512x2048 32) (c64_i32_177 : BitVec 32) (v367 : IVec S512x2048 32) (v374 : IVec S512x2048 32), IVec S512x2048 32 ← k0_part10 arg0 harg0 arg1 harg1 arg2 harg2 arg3 harg3 arg4 harg4 arg5 harg5 arg6 harg6 arg7 harg7 arg8 harg8 arg9 arg10 v336
  let ⟨v413, v415, v421⟩ : Σ' (v413 : IVec S512x2048 1) (v415 : FVec F S512x1024 .bf16), FVec F S512x128 .bf16 ← k0_part11 arg0 harg0 arg1 harg1 arg2 harg2 arg3 harg3 arg4 harg4 arg5 harg5 arg6 harg6 arg7 harg7 arg8 harg8 arg9 arg10 v364 v365 c64_i32_177 v367 v374 v380
  let v459 : FVec F S512x2048 .f32 ← k0_part12 arg0 harg0 arg1 harg1 arg2 harg2 arg3 harg3 arg4 harg4 arg5 harg5 arg6 harg6 arg7 harg7 arg8 harg8 arg9 arg10 v413 v415 v421
  let v496 : FVec F S512x128 .bf16 ← k0_part13 arg0 harg0 arg1 harg1 arg2 harg2 arg3 harg3 arg4 harg4 arg5 harg5 arg6 harg6 arg7 harg7 arg8 harg8 arg9 arg10 v413 v415 v459
  let v532 : FVec F S512x128 .f32 ← k0_part14 arg0 harg0 arg1 harg1 arg2 harg2 arg3 harg3 arg4 harg4 arg5 harg5 arg6 harg6 arg7 harg7 arg8 harg8 arg9 arg10 v413 v415 v496
  let ⟨v566, v568⟩ : Σ' (v566 : FVec F S512x2048 .f32), FVec F S512x1 .f32 ← k0_part15 arg0 harg0 arg1 harg1 arg2 harg2 arg3 harg3 arg4 harg4 arg5 harg5 arg6 harg6 arg7 harg7 arg8 harg8 arg9 arg10 v413 v415 v532
  let ⟨v604, v606⟩ : Σ' (v604 : FVec F S512x2048 .bf16), FVec F S2048x128 .bf16 ← k0_part16 arg0 harg0 arg1 harg1 arg2 harg2 arg3 harg3 arg4 harg4 arg5 harg5 arg6 harg6 arg7 harg7 arg8 harg8 arg9 arg10 v413 v415 v566 v568
  let v640 : Vec F S512x1024 .bf16 ← k0_part17 arg0 harg0 arg1 harg1 arg2 harg2 arg3 harg3 arg4 harg4 arg5 harg5 arg6 harg6 arg7 harg7 arg8 harg8 arg9 arg10 v413 v415 v604 v606
  let ⟨v671, v672, c64_i32_344, v674, v681, v683, c0_i32_348⟩ : Σ' (v671 : IVec S512x2048 32) (v672 : IVec S512x2048 32) (c64_i32_344 : BitVec 32) (v674 : IVec S512x2048 32) (v681 : IVec S512x2048 32) (v683 : BitVec 32), BitVec 32 ← k0_part18 arg0 harg0 arg1 harg1 arg2 harg2 arg3 harg3 arg4 harg4 arg5 harg5 arg6 harg6 arg7 harg7 arg8 harg8 arg9 arg10 v640
  let ⟨v720, v722, v727⟩ : Σ' (v720 : IVec S512x2048 1) (v722 : FVec F S512x1024 .bf16), FVec F S512x128 .f32 ← k0_part19 arg0 harg0 arg1 harg1 arg2 harg2 arg3 harg3 arg4 harg4 arg5 harg5 arg6 harg6 arg7 harg7 arg8 harg8 arg9 arg10 v671 v672 c64_i32_344 v674 v681 v683 c0_i32_348
  let ⟨v761, v763⟩ : Σ' (v761 : FVec F S512x2048 .f32), FVec F S512x1 .f32 ← k0_part20 arg0 harg0 arg1 harg1 arg2 harg2 arg3 harg3 arg4 harg4 arg5 harg5 arg6 harg6 arg7 harg7 arg8 harg8 arg9 arg10 v720 v722 v727
  let ⟨v799, v801⟩ : Σ' (v799 : FVec F S512x2048 .bf16), FVec F S2048x128 .bf16 ← k0_part21 arg0 harg0 arg1 harg1 arg2 harg2 arg3 harg3 arg4 harg4 arg5 harg5 arg6 harg6 arg7 harg7 arg8 harg8 arg9 arg10 v720 v722 v761 v763
  let ⟨v836, cst_430⟩ : Σ' (v836 : FVec F S1024x128 .bf16), FVec F S512x128 .f32 ← k0_part22 arg0 harg0 arg1 harg1 arg2 harg2 arg3 harg3 arg4 harg4 arg5 harg5 arg6 harg6 arg7 harg7 arg8 harg8 arg9 arg10 v720 v722 v799 v801
  let ⟨v871, v872⟩ : Σ' (v871 : FVec F S512x2048 .f32), FVec F S512x2048 .f32 ← k0_part23 arg0 harg0 arg1 harg1 arg2 harg2 arg3 harg3 arg4 harg4 arg5 harg5 arg6 harg6 arg7 harg7 arg8 harg8 arg9 arg10 v720 v722 v836 cst_430
  let v911 : FVec F S512x2048 .bf16 ← k0_part24 arg0 harg0 arg1 harg1 arg2 harg2 arg3 harg3 arg4 harg4 arg5 harg5 arg6 harg6 arg7 harg7 arg8 harg8 arg9 arg10 v720 v722 v871 v872
  k0_part25 arg0 harg0 arg1 harg1 arg2 harg2 arg3 harg3 arg4 harg4 arg5 harg5 arg6 harg6 arg7 harg7 arg8 harg8 arg9 arg10 v720 v722 v911
  let ⟨v978, v979, c64_i32_510, v981, v988⟩ : Σ' (v978 : IVec S512x2048 32) (v979 : IVec S512x2048 32) (c64_i32_510 : BitVec 32) (v981 : IVec S512x2048 32), IVec S512x2048 32 ← k0_part26 arg0 harg0 arg1 harg1 arg2 harg2 arg3 harg3 arg4 harg4 arg5 harg5 arg6 harg6 arg7 harg7 arg8 harg8 arg9 arg10
  let ⟨v1027, v1029, v1031, cst_528⟩ : Σ' (v1027 : IVec S512x2048 1) (v1029 : FVec F S512x1024 .bf16) (v1031 : FVec F S1024x128 .bf16), FVec F S512x128 .f32 ← k0_part27 arg0 harg0 arg1 harg1 arg2 harg2 arg3 harg3 arg4 harg4 arg5 harg5 arg6 harg6 arg7 harg7 arg8 harg8 arg9 arg10 v978 v979 c64_i32_510 v981 v988
  let ⟨v1066, v1067⟩ : Σ' (v1066 : FVec F S512x2048 .f32), FVec F S512x2048 .f32 ← k0_part28 arg0 harg0 arg1 harg1 arg2 harg2 arg3 harg3 arg4 harg4 arg5 harg5 arg6 harg6 arg7 harg7 arg8 harg8 arg9 arg10 v1027 v1029 v1031 cst_528
  let v1106 : FVec F S512x2048 .bf16 ← k0_part29 arg0 harg0 arg1 harg1 arg2 harg2 arg3 harg3 arg4 harg4 arg5 harg5 arg6 harg6 arg7 harg7 arg8 harg8 arg9 arg10 v1027 v1029 v1066 v1067
  k0_part30 arg0 harg0 arg1 harg1 arg2 harg2 arg3 harg3 arg4 harg4 arg5 harg5 arg6 harg6 arg7 harg7 arg8 harg8 arg9 arg10 v1027 v1029 v1106
  let ⟨v1175, v1177⟩ : Σ' (v1175 : FVec F S512x128 .bf16), FVec F S2048x128 .bf16 ← k0_part31 arg0 harg0 arg1 harg1 arg2 harg2 arg3 harg3 arg4 harg4 arg5 harg5 arg6 harg6 arg7 harg7 arg8 harg8 arg9 arg10 v1027 v1029
  let ⟨v1213, v1215⟩ : Σ' (v1213 : FVec F S512x2048 .f32), FVec F S512x1 .f32 ← k0_part32 arg0 harg0 arg1 harg1 arg2 harg2 arg3 harg3 arg4 harg4 arg5 harg5 arg6 harg6 arg7 harg7 arg8 harg8 arg9 arg10 v1027 v1029 v1175 v1177
  let ⟨v1250, v1251⟩ : Σ' (v1250 : FVec F S512x128 .bf16), Vec F S512x128 .bf16 ← k0_part33 arg0 harg0 arg1 harg1 arg2 harg2 arg3 harg3 arg4 harg4 arg5 harg5 arg6 harg6 arg7 harg7 arg8 harg8 arg9 arg10 v1027 v1029 v1213 v1215
  let ⟨v1283, v1284⟩ : Σ' (v1283 : BitVec 32), BitVec 32 ← k0_part34 arg0 harg0 arg1 harg1 arg2 harg2 arg3 harg3 arg4 harg4 arg5 harg5 arg6 harg6 arg7 harg7 arg8 harg8 arg9 arg10 v2 v1250 v1251
  K v1283 v1284

theorem attn_run (c : Dev nD) (v2 : BitVec 32) (K : BitVec 32 → BitVec 32 → Prog (TpuEff nD τ sig (Elt F) Λ₀ .tc) PUnit) (Q : PUnit → sProp 𝕄)
    (x : S2048x1024.Idx → Elt F .bf16) (wq wo : S1024x1024.Idx → Elt F .bf16) (k v : S8x2048x128.Idx → Elt F .bf16)
    (o : S2048x1024.Idx → Elt F .f32) (ctx : S512x1024.Idx → Elt F .bf16) :
    iprop(pt c cc0_stg0_0 x ∗ pt c cc0_stg1_0 wq ∗ pt c cc0_stg2_0 k ∗ pt c cc0_stg3_0 v ∗ pt c cc0_stg4_0 wo ∗ pt c cc0_stg5_0 o ∗ pt c cc0_scratch0 ctx
      ∗ (∀ (a b : BitVec 32) (ctx' : S512x1024.Idx → Elt F .bf16),
          (pt c cc0_stg0_0 x ∗ pt c cc0_stg1_0 wq ∗ pt c cc0_stg2_0 k ∗ pt c cc0_stg3_0 v ∗ pt c cc0_stg4_0 wo
            ∗ pt c cc0_stg5_0 (partialOut x wq k v wo) ∗ pt c cc0_scratch0 ctx')
          -∗ wp frame (wpE (defs₀ (F := F)) 𝒱₀ (c : Thread nD τ) none) Set.univ (K a b) Q))
      ⊢ wp frame (wpE (defs₀ (F := F)) 𝒱₀ (c : Thread nD τ) none) Set.univ (attnProg (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 v2 K) Q := by
  iintro ⟨H0, H1, H2, H3, H4, H5, H6, Hk⟩
  unfold attnProg
  sl_exec_parts!
  have h0 : attn_run.sl.v333 x wq k v = ctxT x wq k v 0 (by decide) := by
    have e : attn_run.sl.H6_8 x wq k v = headStores x wq k v [] 0 (by decide) 8 le_rfl := rfl
    unfold attn_run.sl.v333
    rw [e]
    exact readCov_headStores ..
  have h1 : attn_run.sl.v640 x wq k v = ctxT x wq k v 1 (by decide) := by
    have e : attn_run.sl.H6_16 x wq k v = headStores x wq k v (attn_run.sl.H6_8 x wq k v) 1 (by decide) 8 le_rfl := rfl
    unfold attn_run.sl.v640
    rw [e]
    exact readCov_headStores ..
  have h2 : attn_run.sl.v947 x wq k v = ctxT x wq k v 2 (by decide) := by
    have e : attn_run.sl.H6_24 x wq k v = headStores x wq k v (attn_run.sl.H6_16 x wq k v) 2 (by decide) 8 le_rfl := rfl
    unfold attn_run.sl.v947
    rw [e]
    exact readCov_headStores ..
  have h3 : attn_run.sl.v1254 x wq k v = ctxT x wq k v 3 (by decide) := by
    have e : attn_run.sl.H6_32 x wq k v = headStores x wq k v (attn_run.sl.H6_24 x wq k v) 3 (by decide) 8 le_rfl := rfl
    unfold attn_run.sl.v1254
    rw [e]
    exact readCov_headStores ..
  have ho : attn_run.sl.H5_4 x wq wo k v = tileStores x wq k v wo 4 le_rfl := by
    unfold attn_run.sl.H5_4 attn_run.sl.H5_3 attn_run.sl.H5_2 attn_run.sl.H5_1 attn_run.sl.r_8
    rw [h0, h1, h2, h3]
    rfl
  rw [ho, writes_tiles]
  iapply Hk
  isplitl [H0]; iexact H0
  isplitl [H1]; iexact H1
  isplitl [H2]; iexact H2
  isplitl [H3]; iexact H3
  isplitl [H4]; iexact H4
  isplitl [H5]; iexact H5
  iexact H6

end Cert.Proof

end
-- ==== Proof.Schedule.lean ====
/-
  The talk between the devices. Each device `c` owns one barrier cell, six send cells and six receive cells.

  * Barrier: `c` signals its left and its right neighbour and waits for two units. The signal to the left lends that
    neighbour the six slots of `c`'s receive buffer (and tells it that `c`'s receive cells are ready); the signal to the
    right carries nothing.
  * Copy `k` (`k < 6`): `c` copies a block of 512 rows into slot `k` of its right neighbour. The send cell gives the source
    back; the receive cell of the neighbour hands it its slot `k`, holding the block `c` sent.

  The blocks: in copies 0, 1 and 2 each device passes on the sum it has so far of one chunk of rows, the receiver adds its
  own partial product of that chunk; after them device `c` holds the whole sum of chunk `c + 1`, and copies 3, 4 and 5 pass
  the finished chunks round.
-/
module

public import proofs.«01_k».proof.Proof.Attn

@[expose] public section

noncomputable section

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Cells -/

abbrev barS : Sem sig := sig.barrier 0 rfl
def sndS (k : Fin 6) : DmaSem sig := ⟨6 + k.val, by have := k.isLt; show 6 + k.val < 18; omega⟩
def rcvS (k : Fin 6) : DmaSem sig := ⟨12 + k.val, by have := k.isLt; show 12 + k.val < 18; omega⟩

abbrev barCell (c : Dev nD) : GSem nD τ sig := ((c : Thread nD τ), .reg barS)
abbrev sndCell (c : Dev nD) (k : Fin 6) : GSem nD τ sig := ((c : Thread nD τ), .dma (sndS k))
abbrev rcvCell (c : Dev nD) (k : Fin 6) : GSem nD τ sig := ((c : Thread nD τ), .dma (rcvS k))

theorem inbS (k : Fin 6) : ∀ a, (![k.val, 0, 0] : Fin 3 → ℕ) a + S1x512x1024.size a ≤ S6x512x1024.size a := by
  have hk := k.isLt
  intro a
  match a with
  | ⟨0, _⟩ => show k.val + 1 ≤ 6; omega
  | ⟨1, _⟩ => show 0 + 512 ≤ 512; omega
  | ⟨2, _⟩ => show 0 + 1024 ≤ 1024; omega

/-- Slot `k` of the receive buffer. -/
abbrev slotM (k : Fin 6) : Memref sig .tc .vmem S512x1024 .bf16 :=
  ((Memref.whole cc0_scratch2).slice (Rect.unit (s := S6x512x1024) ![k.val, 0, 0] S1x512x1024.size (inbS k)) (fun _ => rfl)).squeeze
    S512x1024 squeezes_S1x512x1024_S512x1024

/-- Slot `k` of device `c`'s receive buffer, the buffer's contents being `f`. -/
abbrev slPts (c : Dev nD) (k : Fin 6) (f : S6x512x1024.Idx → Elt F .bf16) : sProp 𝕄 :=
  (slotM k).view.loc (c : Thread nD τ) ↦[(slotM k).view.set]{fullShare} f

/-- The credit of one copy. -/
@[irreducible] def N : ℕ := (slotM 0).view.dmaCredit
theorem credit (m : Memref sig .tc .vmem S512x1024 .bf16) : m.view.dmaCredit = N := by
  unfold N View.dmaCredit
  rfl
theorem N_pos : 0 < N := credit (slotM 0) ▸ View.dmaCredit_pos _ (by decide)

/-! ## What the copies carry -/

/-- The rows of chunk `q` of a partial product. -/
def rd (q : Dev nD) (f : S2048x1024.Idx → Elt F .f32) : FVec F S512x1024 .f32 :=
  View.ld f (Rect.unit ![512 * q.val, 0] S512x1024.size (inbX q.val q.isLt))

/-- A block with a leading axis of one. -/
def up3 (w : S512x1024.Idx → Elt F .bf16) : S1x512x1024.Idx → Elt F .bf16 :=
  fun i => w (at2 (i (1 : Fin 3)).val (i (2 : Fin 3)).val (i (1 : Fin 3)).isLt (i (2 : Fin 3)).isLt)

/-- A block received added to a block held. -/
def add3 (a : FVec F S512x1024 .f32) (w : S512x1024.Idx → Elt F .bf16) : FVec F S512x1024 .f32 := k0_pay98 a (up3 w)
/-- A block rounded for sending. -/
def tr (a : FVec F S512x1024 .f32) : FVec F S512x1024 .bf16 := k0_pay91 a
/-- A block received, widened. -/
def ex (w : S512x1024.Idx → Elt F .bf16) : FVec F S512x1024 .f32 := k0_pay100 (up3 w)

/-- The chunk device `c` works on after `n` copies. -/
def ck : ℕ → Dev nD → Dev nD
  | 0, c => c
  | n + 1, c => lt (ck n c)

section Values

variable (P : Dev nD → S2048x1024.Idx → Elt F .f32)

/-- The sum device `c` has of chunk `ck n c` after `n` copies: the partial products of `n + 1` devices. -/
def acc : ℕ → Dev nD → FVec F S512x1024 .f32
  | 0, c => rd (ck 0 c) (P c)
  | n + 1, c => add3 (rd (ck (n + 1) c) (P c)) (tr (acc n (lt c)))

/-- The block device `c` sends in copy `k`. -/
def sv : ℕ → Dev nD → FVec F S512x1024 .bf16
  | 0, c => tr (acc P 0 c)
  | 1, c => tr (acc P 1 c)
  | 2, c => tr (acc P 2 c)
  | 3, c => tr (acc P 3 c)
  | n + 4, c => sv (n + 3) (lt c)

/-- The receive buffer of device `c` once every copy has landed. -/
def commV (c : Dev nD) : S6x512x1024.Idx → Elt F .bf16 := fun i =>
  sv P (i (0 : Fin 3)).val (lt c) (at2 (i (1 : Fin 3)).val (i (2 : Fin 3)).val (i (1 : Fin 3)).isLt (i (2 : Fin 3)).isLt)

/-! ## The schedule -/

/-- What the two signals bring to device `c`'s barrier cell. -/
def barPay (c : Dev nD) : Fin 2 → sProp 𝕄
  | 0 => bigSep Finset.univ fun k : Fin 6 => iprop((∃ f, slPts (rt c) k f) ∗ reached ER (rcvCell (rt c) k) 0)
  | 1 => iprop(emp)

/-- What comes back with device `c`'s send cell `k`: the source of the copy. -/
def sndPay (c : Dev nD) : Fin 6 → sProp 𝕄
  | 4 => iprop(∃ f, slPts c 3 f)
  | 5 => iprop(∃ f, slPts c 4 f)
  | _ => iprop(∃ f, pt c cc0_scratch1 f)

/-- What comes with device `c`'s receive cell `k`: slot `k`, holding the block the left neighbour sent. -/
def rcvPay (c : Dev nD) (k : Fin 6) : sProp 𝕄 := slPts c k (commV P c)

def payOf (c : Dev nD) (d : Fin 2) : SemLoc sig → sProp 𝕄
  | .reg _ => barPay c d
  | .dma s => if h : 12 ≤ s.val then rcvPay P c ⟨s.val - 12, by have : s.val < 18 := s.isLt; omega⟩
      else if h : 6 ≤ s.val then sndPay c ⟨s.val - 6, by omega⟩ else iprop(emp)

def dutiesOf : SemLoc sig → Finset (Fin 2)
  | .reg s => if s = barS then Finset.univ else ∅
  | .dma s => if 6 ≤ s.val then {0} else ∅

def amountOf : SemLoc sig → ℕ
  | .reg _ => 1
  | .dma _ => N

/-- One round: two duties on a barrier cell, one on a send or a receive cell. -/
def talk : Rounds.Schedule (GSem nD τ sig) (Fin 2) 𝕄 where
  duties g r := if r = 0 ∧ g.1.2 = .tc then dutiesOf g.2 else ∅
  unitless _ := False
  amount g _ _ := amountOf g.2
  payload g _ d := payOf P g.1.1 d g.2
  amount_pos g _ _ _ := by
    cases h : g.2 with
    | reg s => exact Nat.one_pos
    | dma s => exact N_pos

instance talk_storable (g : GSem nD τ sig) (r : ℕ) (d : Fin 2) :
    BI.Storable (upEmb : UEmb _ 𝕄) ((talk P).payload g r d) := by
  show BI.Storable upEmb (payOf P g.1.1 d g.2)
  unfold payOf
  split
  · unfold barPay
    split <;> infer_instance
  · split
    · unfold rcvPay; infer_instance
    · split
      · unfold sndPay; split <;> infer_instance
      · infer_instance

section Tables

variable (c : Dev nD) (k : Fin 6)

theorem duties_bar : (talk P).duties (barCell c) 0 = Finset.univ := rfl
theorem duties_snd : (talk P).duties (sndCell c k) 0 = {0} := by
  dsimp only [talk]
  rw [if_pos ⟨rfl, rfl⟩]
  exact if_pos (Nat.le_add_right 6 k.val)
theorem duties_rcv : (talk P).duties (rcvCell c k) 0 = {0} := by
  dsimp only [talk]
  rw [if_pos ⟨rfl, rfl⟩]
  exact if_pos (show 6 ≤ 12 + k.val by omega)
theorem duties_later (g : GSem nD τ sig) : ∀ r, 1 ≤ r → (talk P).duties g r = ∅ := fun r hr => by
  dsimp only [talk]
  exact if_neg fun h => by omega

theorem expect_bar : (talk P).expect (barCell c) 0 = 2 := by
  unfold Schedule.expect Schedule.amountOf
  rw [duties_bar]
  rfl
theorem expect_snd : (talk P).expect (sndCell c k) 0 = N := by
  unfold Schedule.expect Schedule.amountOf
  rw [duties_snd, Finset.sum_singleton]
  rfl
theorem expect_rcv : (talk P).expect (rcvCell c k) 0 = N := by
  unfold Schedule.expect Schedule.amountOf
  rw [duties_rcv, Finset.sum_singleton]
  rfl

theorem payload_bar (d : Fin 2) : (talk P).payload (barCell c) 0 d = barPay c d := rfl
theorem payload_snd (d : Fin 2) : (talk P).payload (sndCell c k) 0 d = sndPay c k := by
  show payOf P c d (.dma (sndS k)) = _
  have hk := k.isLt
  have hs : (sndS k).val = 6 + k.val := rfl
  unfold payOf
  dsimp only
  rw [dif_neg (by omega), dif_pos (by omega)]
  exact congrArg (sndPay c) (Fin.ext (by show (sndS k).val - 6 = k.val; omega))
theorem payload_rcv (d : Fin 2) : (talk P).payload (rcvCell c k) 0 d = rcvPay P c k := by
  show payOf P c d (.dma (rcvS k)) = _
  have hs : (rcvS k).val = 12 + k.val := rfl
  unfold payOf
  dsimp only
  rw [dif_pos (by omega)]
  exact congrArg (rcvPay P c) (Fin.ext (by show (rcvS k).val - 12 = k.val; omega))

theorem rest_bar : bigSep ((talk P).duties (barCell c) 0 \ ∅) (fun d => (talk P).payload (barCell c) 0 d)
    = iprop(barPay c 0 ∗ barPay c 1) := by
  rw [Finset.sdiff_empty, duties_bar]
  exact BI.bigSep_fin_two (fun d : Fin 2 => (talk P).payload (barCell c) 0 d)
theorem rest_snd : bigSep ((talk P).duties (sndCell c k) 0 \ ∅) (fun d => (talk P).payload (sndCell c k) 0 d) = sndPay c k := by
  rw [Finset.sdiff_empty, duties_snd, bigSep_singleton, payload_snd]
theorem rest_rcv : bigSep ((talk P).duties (rcvCell c k) 0 \ ∅) (fun d => (talk P).payload (rcvCell c k) 0 d) = rcvPay P c k := by
  rw [Finset.sdiff_empty, duties_rcv, bigSep_singleton, payload_rcv]

end Tables

end Values

/-! ## What each device owes; the levels -/

/-- The receive units of the right neighbour that device `c` still owes when the last `j` copies are to be made. -/
def owed (c : Dev nD) : ℕ → CellTallies nD τ sig Unit
  | 0 => 0
  | j + 1 => owed c j + tallyAt (rcvCell (rt c) ⟨5 - j, by omega⟩) () N

/-- What device `c` owes at launch: the six copies and the two signals. -/
def O₀ (c : Dev nD) : CellTallies nD τ sig Unit :=
  (owed c 6 + tallyAt (barCell (rt c)) () 1) + tallyAt (barCell (lt c)) () 1

def L (g : GSem nD τ sig) : Finset Unit := if g.1.2 = .tc then {()} else ∅
def lvOf : SemLoc sig → ℕ
  | .reg _ => 1
  | .dma s => if 12 ≤ s.val then s.val - 10 else 0
/-- Barrier cells at 1, receive cell `k` at `2 + k`, the rest at 0. -/
def lv (g : GSem nD τ sig) (_ : Unit) : ℕ := lvOf g.2

theorem L_of_ne (g : GSem nD τ sig) (h : g.1.2 ≠ .tc) : L g = ∅ := if_neg h
theorem L_tc (c : Dev nD) (sm : SemLoc sig) : L ((c : Thread nD τ), sm) = {()} := if_pos rfl
theorem lv_snd (c : Dev nD) (k : Fin 6) : lv (sndCell c k) () = 0 := by
  have hk := k.isLt
  exact if_neg (show ¬ 12 ≤ 6 + k.val by omega)
theorem lv_rcv (c : Dev nD) (k : Fin 6) : lv (rcvCell c k) () = 2 + k.val :=
  (if_pos (show 12 ≤ 12 + k.val by omega)).trans (show 12 + k.val - 10 = 2 + k.val by omega)

theorem tally_pos {g g' : GSem nD τ sig} {u : Unit} {n : ℕ} (h : 0 < tallyAt (Ix := Unit) g' () n g u) : g = g' := by
  rw [tallyAt_apply] at h
  split at h
  · next hg => exact hg.1
  · exact absurd h (Nat.lt_irrefl 0)

theorem owed_pos {c : Dev nD} {g : GSem nD τ sig} {u : Unit} : ∀ {j : ℕ}, 0 < owed c j g u →
    ∃ k : Fin 6, 6 ≤ j + k.val ∧ g = rcvCell (rt c) k
  | 0, h => absurd h (Nat.lt_irrefl 0)
  | j + 1, h => by
    unfold owed at h
    rw [Pi.add_apply, Finsupp.add_apply] at h
    rcases Nat.add_pos_iff_pos_or_pos.mp h with h | h
    · obtain ⟨k, hk, rfl⟩ := owed_pos h
      exact ⟨k, by omega, rfl⟩
    · exact ⟨_, by show 6 ≤ j + 1 + (5 - j); omega, tally_pos h⟩

/-- A device may wait on a cell of its own while the copies it still owes have higher levels. -/
theorem mayWait (c : Dev nD) (sm : SemLoc sig) (j : ℕ) (hj : lvOf sm < 8 - j) :
    (levAts L lv : sProp 𝕄) ⊢ MayWait (c : Thread nD τ) sm () (owed c j) :=
  MayOwe.of_cut (L := L) (lev := lv) (lvOf sm)
    (fun p hp => by rw [Finset.mem_singleton.mp hp, L_tc]; exact Finset.mem_singleton_self _)
    (fun g u hg => by
      obtain ⟨k, -, rfl⟩ := owed_pos hg
      rw [L_tc]; exact Finset.mem_singleton_self _)
    (fun p hp => by rw [Finset.mem_singleton.mp hp]; exact le_rfl)
    (fun g u hg => by
      obtain ⟨k, hk, rfl⟩ := owed_pos hg
      rw [lv_rcv]; omega)

end Cert.Proof

end
-- ==== Proof.Ring.lean ====
/-
  The places of the ring exchange: where slot `k` of the receive buffer and chunk `q` of the output lie, and what reading
  and overwriting them gives.
-/
module

public import proofs.«01_k».proof.Proof.Schedule

@[expose] public section

noncomputable section

namespace Cert.Proof

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Geometry of the slots and of the chunks -/

abbrev commM : Memref sig .tc .vmem S6x512x1024 .bf16 := Memref.whole cc0_scratch2
abbrev stageM : Memref sig .tc .vmem S512x1024 .bf16 := Memref.whole cc0_scratch1
abbrev outM : Memref sig .tc .vmem S2048x1024 .f32 := Memref.whole cc0_stg5_0

abbrev slotR (k : Fin 6) : Rect S6x512x1024 := Rect.unit (s := S6x512x1024) ![k.val, 0, 0] S1x512x1024.size (inbS k)
abbrev chunkR (q : Dev nD) : Rect S2048x1024 := Rect.unit (s := S2048x1024) ![512 * q.val, 0] S512x1024.size (inbX q.val q.isLt)
abbrev fullR : Rect S512x1024 := Rect.unit (s := S512x1024) ![0, 0] S512x1024.size inb_S512x1024_S512x1024_0_0

/-- Where slot `k` keeps its element `j`. -/
theorem slot_emb (k : Fin 6) (j : S512x1024.Idx) :
    ((slotM k).view.emb j : S6x512x1024.Idx) = (slotR k).emb (Fin.cons ⟨0, Nat.one_pos⟩ j) :=
  congrArg (fun i => (slotR k).emb i) (Shape.reshapeEquiv_cons_one (n := 2) (d := ![512, 1024]) squeezes_S1x512x1024_S512x1024.numel_eq j)

theorem slot_emb_0 (k : Fin 6) (j : S512x1024.Idx) : (((slotM k).view.emb j : S6x512x1024.Idx) (0 : Fin 3)).val = k.val := by
  rw [slot_emb]; show k.val + 1 * 0 = k.val; omega
theorem slot_emb_1 (k : Fin 6) (j : S512x1024.Idx) : (((slotM k).view.emb j : S6x512x1024.Idx) (1 : Fin 3)).val = (j (0 : Fin 2)).val := by
  rw [slot_emb]; show 0 + 1 * (j (0 : Fin 2)).val = _; omega
theorem slot_emb_2 (k : Fin 6) (j : S512x1024.Idx) : (((slotM k).view.emb j : S6x512x1024.Idx) (2 : Fin 3)).val = (j (1 : Fin 2)).val := by
  rw [slot_emb]; show 0 + 1 * (j (1 : Fin 2)).val = _; omega

theorem at2_eta {m n : ℕ} (j : (⟨2, ![m, n]⟩ : Shape).Idx) (a b : ℕ) (ha : a < m) (hb : b < n)
    (h0 : a = (j (0 : Fin 2)).val) (h1 : b = (j (1 : Fin 2)).val) : at2 a b ha hb = j := by
  subst h0 h1
  funext i
  match i with
  | ⟨0, _⟩ => rfl
  | ⟨1, _⟩ => rfl

section Values

variable (P : Dev nD → S2048x1024.Idx → Elt F .f32)

theorem acc_zero (c : Dev nD) : acc P 0 c = rd (ck 0 c) (P c) := rfl
theorem acc_succ (n : ℕ) (c : Dev nD) : acc P (n + 1) c = add3 (rd (ck (n + 1) c) (P c)) (tr (acc P n (lt c))) := rfl
theorem sv_0 (c : Dev nD) : sv P 0 c = tr (acc P 0 c) := rfl
theorem sv_1 (c : Dev nD) : sv P 1 c = tr (acc P 1 c) := rfl
theorem sv_2 (c : Dev nD) : sv P 2 c = tr (acc P 2 c) := rfl
theorem sv_3 (c : Dev nD) : sv P 3 c = tr (acc P 3 c) := rfl
theorem sv_4 (c : Dev nD) : sv P 4 c = sv P 3 (lt c) := rfl
theorem sv_5 (c : Dev nD) : sv P 5 c = sv P 4 (lt c) := rfl

theorem commV_at (c : Dev nD) (k : Fin 6) (i : S6x512x1024.Idx) (j : S512x1024.Idx) (h0 : (i (0 : Fin 3)).val = k.val)
    (h1 : (i (1 : Fin 3)).val = (j (0 : Fin 2)).val) (h2 : (i (2 : Fin 3)).val = (j (1 : Fin 2)).val) :
    commV P c i = sv P k.val (lt c) j :=
  (congrArg (sv P (i (0 : Fin 3)).val (lt c)) (at2_eta j _ _ _ _ h1 h2)).trans (congrArg (fun n => sv P n (lt c) j) h0)

/-- A block landed in slot `k` of the right neighbour leaves that slot as the finished buffer has it. -/
theorem landed (c : Dev nD) (k : Fin 6) (fd : S6x512x1024.Idx → Elt F .bf16) (w : S512x1024.Idx → Elt F .bf16)
    (hw : w = sv P k.val c) :
    (slPts (rt c) k ((slotM k).view.write (Elt F) fd w Finset.univ) : sProp 𝕄) = slPts (rt c) k (commV P (rt c)) :=
  pointsTo_congr fun i hi => by
    obtain ⟨j, -, rfl⟩ := Finset.mem_map.mp hi
    rw [View.write_emb_of_mem _ _ (Finset.mem_univ j), hw]
    exact (cast_eq _ _).trans ((commV_at P (rt c) k _ j (slot_emb_0 k j) (slot_emb_1 k j) (slot_emb_2 k j)).trans (by rw [lt_rt])).symm

/-- Slot `k` of the finished buffer holds what the left neighbour sent in copy `k`. -/
theorem slot_read (c : Dev nD) (k : Fin 6) : (slotM k).view.read (Elt F) (commV P c) = sv P k.val (lt c) :=
  funext fun j => commV_at P c k _ j (slot_emb_0 k j) (slot_emb_1 k j) (slot_emb_2 k j)

theorem slot_load (c : Dev nD) (k : Fin 6) :
    commM.view.readAt (Elt F) (slotR k).toLoadRect (commV P c) = up3 (sv P k.val (lt c)) :=
  funext fun j => commV_at P c k _ (at2 (j (1 : Fin 3)).val (j (2 : Fin 3)).val (j (1 : Fin 3)).isLt (j (2 : Fin 3)).isLt)
    (by show k.val + 1 * (j (0 : Fin 3)).val = k.val; have h : (j (0 : Fin 3)).val < 1 := (j (0 : Fin 3)).isLt; omega)
    (by show 0 + 1 * (j (1 : Fin 3)).val = (j (1 : Fin 3)).val; omega)
    (by show 0 + 1 * (j (2 : Fin 3)).val = (j (2 : Fin 3)).val; omega)

end Values

theorem slot_set (k : Fin 6) : commM.view.setOn (slotR k).toLoadRect.set ⊆ (slotM k).view.set := by
  intro i hi
  obtain ⟨x, hx, rfl⟩ := Finset.mem_map.mp hi
  show _ ∈ ((commM.view.slice (slotR k)).reshape S512x1024 _).set
  rw [View.set_reshape, View.set_slice]
  exact Finset.mem_map.mpr ⟨x, hx, rfl⟩

/-- A rectangle of the output buffer overwritten. -/
def putR (R : Rect S2048x1024) (w : R.shape.Idx → Elt F .f32) (f : S2048x1024.Idx → Elt F .f32) : S2048x1024.Idx → Elt F .f32 :=
  (outM.access R).write (Elt F) f w Finset.univ

theorem ld_putR (R : Rect S2048x1024) (f : S2048x1024.Idx → Elt F .f32) (w : R.shape.Idx → Elt F .f32) :
    View.ld (putR R w f) R = w :=
  funext fun j => (View.write_emb_of_mem (v := outM.access R) f w (Finset.mem_univ j)).trans (cast_eq _ _)

theorem putR_off (R : Rect S2048x1024) (f : S2048x1024.Idx → Elt F .f32) (w : R.shape.Idx → Elt F .f32) (i : S2048x1024.Idx)
    (h : ∀ j, R.emb j ≠ i) : putR R w f i = f i :=
  View.write_of_not_mem (v := outM.access R) f w Finset.univ (fun hi => by
    obtain ⟨j, -, hj⟩ := Finset.mem_map.mp hi
    exact h j hj)

/-- Chunk `q` of a buffer overwritten. -/
def wr (q : Dev nD) (w : FVec F S512x1024 .f32) (f : S2048x1024.Idx → Elt F .f32) : S2048x1024.Idx → Elt F .f32 :=
  putR (chunkR q) w f

theorem rd_wr (q : Dev nD) (w : FVec F S512x1024 .f32) (f : S2048x1024.Idx → Elt F .f32) : rd q (wr q w f) = w := by
  unfold rd wr
  exact ld_putR (chunkR q) f w

theorem chunk_of_row {a b q : ℕ} (h : a = 512 * q + 1 * b) (hb : b < 512) : a / 512 = q := by omega

/-- The chunk of rows an index lies in. -/
def chunkOf (i : S2048x1024.Idx) : ℕ := (i (0 : Fin 2)).val / 512

theorem chunkOf_emb (q : Dev nD) (j : S512x1024.Idx) : chunkOf ((chunkR q).emb j) = q.val :=
  chunk_of_row (a := (((chunkR q).emb j : S2048x1024.Idx) (0 : Fin 2)).val) (b := (j (0 : Fin 2)).val) rfl (j (0 : Fin 2)).isLt

theorem wr_of_ne (q : Dev nD) (w : FVec F S512x1024 .f32) (f : S2048x1024.Idx → Elt F .f32) (i : S2048x1024.Idx)
    (h : chunkOf i ≠ q.val) : wr q w f i = f i :=
  putR_off (chunkR q) f w i fun j hj => h ((congrArg chunkOf hj).symm.trans (chunkOf_emb q j))

theorem rd_wr_ne (q q' : Dev nD) (h : q ≠ q') (w : FVec F S512x1024 .f32) (f : S2048x1024.Idx → Elt F .f32) :
    rd q (wr q' w f) = rd q f := by
  funext j
  have e := wr_of_ne q' w f ((chunkR q).emb j) fun e => h (Fin.ext ((chunkOf_emb q j).symm.trans e))
  generalize wr q' w f = g at e ⊢
  exact e

/-- The whole staging buffer overwritten reads back what was written. -/
theorem stage_read (f : S512x1024.Idx → Elt F .bf16) (w : FVec F S512x1024 .bf16) :
    stageM.view.read (Elt F) ((stageM.access fullR).write (Elt F) f w Finset.univ) = w :=
  funext fun j => by
    have e : ((stageM.access fullR).emb j : S512x1024.Idx) = j := by
      funext i
      match i with
      | ⟨0, _⟩ => exact Fin.ext (show 0 + 1 * (j (0 : Fin 2)).val = (j (0 : Fin 2)).val by omega)
      | ⟨1, _⟩ => exact Fin.ext (show 0 + 1 * (j (1 : Fin 2)).val = (j (1 : Fin 2)).val by omega)
    have h := (View.write_emb_of_mem (v := stageM.access fullR) f w (Finset.mem_univ j)).trans (cast_eq _ _)
    rw [e] at h
    exact h

end Cert.Proof

end
-- ==== Proof.Hop.lean ====
/-
  One hop of the ring and the two kinds of round made of it, each proved once for any copy number `k`: a device copies a
  block into slot `k` of its right neighbour, waits until its own copy has left and until the left neighbour's has landed,
  and then adds the block received to a chunk of its output (`sumRound`) or puts it there (`passRound`).
-/
module

public import proofs.«01_k».proof.Proof.Ring

@[expose] public section

noncomputable section

namespace Cert.Proof

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ
/-- A TensorCore program. -/
abbrev Pg (F : FTy → Type) [FloatOps F] : Type 1 := Prog (TpuEff nD τ sig (Elt F) Λ₀ .tc) PUnit.{1}

/-- That program `e` runs on device `c` and ends with `Q`. -/
abbrev runs (c : Dev nD) (Q : PUnit.{1} → sProp 𝕄) (e : Pg F) : sProp 𝕄 :=
  wp frame (wpE (defs₀ (F := F)) 𝒱₀ (c : Thread nD τ) none) Set.univ e Q

/-! ## The program -/

/-- Copy `src` into slot `k` of device `d`; wait for the copy to leave; wait for the left neighbour's to land. -/
def hop (d : Dev nD) (k : Fin 6) (src : Memref sig .tc .vmem S512x1024 .bf16) (hs : src.view.WordExact)
    (hk : (slotM k).view.WordExact) (K : Pg F) : Pg F :=
  .op (.enqueueDma src (.remote (Dev.tc d) (slotM k) (.dma (sndS k))) (.dma (rcvS k)) hs hk ⟨⟨rfl, Or.inl rfl⟩, trivial⟩) fun _ =>
  .op (.waitDma2 (sndS k) (slotM k) src hk hs) fun _ =>
  .op (.waitDma2 (rcvS k) src (slotM k) hs hk) fun _ => K

/-- Round the chunk at offsets `o` of the output and put it in the staging buffer. -/
def stageChunk (o : Fin 2 → ℕ) (ho : ∀ a, o a + S512x1024.size a ≤ S2048x1024.size a) (K : Pg F) : Pg F :=
  .op (.load outM (Rect.unit (s := S2048x1024) o S512x1024.size ho).toLoadRect (View.loadsAt_vmem h_S512x1024)) fun a =>
  .op (.load stageM fullR.toLoadRect (View.loadsAt_vmem h_S512x1024)) fun _ =>
  .op (.store stageM fullR (k0_pay91 a) Finset.univ (View.stores_vmem h_S512x1024
    ((Memref.isWhole_whole _).storeExact_slice rfl _ packedbf16_S512x1024_S512x1024_0_0) (fun _ => rfl)) (.inl rfl)) fun _ => K

/-- Add the block in slot `k` to the chunk at offsets `o` of the output. -/
def addSlot (k : Fin 6) (o : Fin 2 → ℕ) (ho : ∀ a, o a + S512x1024.size a ≤ S2048x1024.size a) (K : Pg F) : Pg F :=
  .op (.load outM (Rect.unit (s := S2048x1024) o S512x1024.size ho).toLoadRect (View.loadsAt_vmem h_S512x1024)) fun a =>
  .op (.load commM (slotR k).toLoadRect (View.loadsAt_vmem h_S1x512x1024)) fun b =>
  .op (.load outM (Rect.unit (s := S2048x1024) o S512x1024.size ho).toLoadRect (View.loadsAt_vmem h_S512x1024)) fun _ =>
  .op (.store outM (Rect.unit (s := S2048x1024) o S512x1024.size ho) (k0_pay98 a b) Finset.univ
    (View.stores_vmem_bits_univ h_S512x1024 rfl) (.inl rfl)) fun _ => K

/-- Put the block in slot `k` at offsets `o` of the output. -/
def putSlot (k : Fin 6) (o : Fin 2 → ℕ) (ho : ∀ a, o a + S512x1024.size a ≤ S2048x1024.size a) (K : Pg F) : Pg F :=
  .op (.load commM (slotR k).toLoadRect (View.loadsAt_vmem h_S1x512x1024)) fun b =>
  .op (.load outM (Rect.unit (s := S2048x1024) o S512x1024.size ho).toLoadRect (View.loadsAt_vmem h_S512x1024)) fun _ =>
  .op (.store outM (Rect.unit (s := S2048x1024) o S512x1024.size ho) (k0_pay100 b) Finset.univ
    (View.stores_vmem_bits_univ h_S512x1024 rfl) (.inl rfl)) fun _ => K

/-! ## What the proof of a hop holds -/

section Values

variable (P : Dev nD → S2048x1024.Idx → Elt F .f32)

/-- Every cell's invariant, at the names `κ`. -/
def invs (κ : GSem nD τ sig → ℕ) : sProp 𝕄 :=
  bigSep Finset.univ fun c : Dev nD => iprop(cellInv ER (talk P) (κ (barCell c)) (barCell c)
    ∗ bigSep Finset.univ fun k : Fin 6 => iprop(cellInv ER (talk P) (κ (sndCell c k)) (sndCell c k)
      ∗ cellInv ER (talk P) (κ (rcvCell c k)) (rcvCell c k)))

instance invs_persistent (κ : GSem nD τ sig → ℕ) : BI.Persistent (invs P κ) := by unfold invs; infer_instance

theorem pick {I : Type} [Fintype I] [DecidableEq I] (Φ : I → sProp 𝕄) (i : I) : (bigSep Finset.univ Φ : sProp 𝕄) ⊢ Φ i :=
  bigSep_elim (Finset.mem_univ i)

theorem inv_bar (κ : GSem nD τ sig → ℕ) (c : Dev nD) : invs P κ ⊢ cellInv ER (talk P) (κ (barCell c)) (barCell c) := by
  unfold invs
  iintro H
  ihave H := (pick _ c) $$ H
  icases H with ⟨H, -⟩
  iexact H
theorem inv_link (κ : GSem nD τ sig → ℕ) (c : Dev nD) (k : Fin 6) :
    invs P κ ⊢ iprop(cellInv ER (talk P) (κ (sndCell c k)) (sndCell c k) ∗ cellInv ER (talk P) (κ (rcvCell c k)) (rcvCell c k)) := by
  unfold invs
  iintro H
  ihave H := (pick _ c) $$ H
  icases H with ⟨-, H⟩
  ihave H := (pick _ k) $$ H
  iexact H

theorem close (κ : ℕ) (g : GSem nD τ sig) :
    iprop(cellInv ER (talk P) κ g ∗ atPos ER g (0 + 1) ∅ 0) ⊢ (|={Set.univ}=> semVal g 0 : sProp 𝕄) :=
  Rounds.cell_close ER (talk P) (Set.mem_univ κ) id (duties_later P g)

/-- What device `c` holds for copy `k` from the opening of its cells to the copy. -/
def link (c : Dev nD) (k : Fin 6) : sProp 𝕄 :=
  iprop(atPos ER (sndCell c k) 0 ∅ 0 ∗ reached ER (sndCell c k) 0 ∗ dutyTok ER (sndCell c k) 0 0
    ∗ atPos ER (rcvCell c k) 0 ∅ 0 ∗ dutyTok ER (rcvCell (rt c) k) 0 0 ∗ cred (tallyAt (rcvCell c k) () N))

/-- What the right neighbour has lent for copy `k`. -/
def lent (c : Dev nD) (k : Fin 6) : sProp 𝕄 := iprop((∃ f, slPts (rt c) k f) ∗ reached ER (rcvCell (rt c) k) 0)

/-- The counters of copy `k`, back at zero. -/
def shut (c : Dev nD) (k : Fin 6) : sProp 𝕄 := iprop(semVal (sndCell c k) 0 ∗ semVal (rcvCell c k) 0)

/-- Device `c` owes the last `j` copies. -/
def owing (c : Dev nD) (j : ℕ) : sProp 𝕄 := iprop(∃ W, owes (c : Thread nD τ) (owed c j) W)

variable (c : Dev nD) (κ : GSem nD τ sig → ℕ)

/-- A wait for one block takes `N` units. -/
theorem waits (c : Dev nD) (sm : DmaSem sig) (src dst : Memref sig .tc .vmem S512x1024 .bf16) {hs : src.view.WordExact}
    {hd : dst.view.WordExact} (K : PUnit.{1} → sProp 𝕄) :
    wpE (defs₀ (F := F)) 𝒱₀ (c : Thread nD τ) none Set.univ (.waitDma2 sm src dst hs hd) K
      = waitSpec (c : Thread nD τ) Set.univ (.dma sm) N K :=
  (wpE_waitDma2_eq 𝒱₀ (c : Thread nD τ) none Set.univ K).trans (congrArg (fun n => waitSpec (c : Thread nD τ) Set.univ (.dma sm) n K) (credit dst))

theorem hop_run (Q : PUnit.{1} → sProp 𝕄) (k : Fin 6) (j : ℕ) (hj : j + k.val = 5) (d : Dev nD) (hd : d = rt c)
    (src : Memref sig .tc .vmem S512x1024 .bf16) (hs : src.view.WordExact) (hk : (slotM k).view.WordExact) (K : Pg F)
    (fs : src.view.ty.Contents (Elt F)) (hfs : src.view.read (Elt F) fs = sv P k.val c)
    (hpay : (src.view.loc (c : Thread nD τ) ↦[src.view.set]{fullShare} fs : sProp 𝕄) ⊢ sndPay c k) :
    iprop(invs P κ ∗ levAts L lv ∗ link c k ∗ lent c k ∗ owing c (j + 1)
      ∗ (src.view.loc (c : Thread nD τ) ↦[src.view.set]{fullShare} fs)
      ∗ ((sndPay c k ∗ slPts c k (commV P c) ∗ shut c k ∗ owing c j) -∗ runs c Q K))
    ⊢ runs c Q (hop d k src hs hk K) := by
  subst hd
  unfold hop link lent owing
  have hk' : (⟨5 - j, by omega⟩ : Fin 6) = k := Fin.ext (by show 5 - j = k.val; omega)
  have h1 : (src.view.loc (c : Thread nD τ) ↦[src.view.set]{fullShare} fs : sProp 𝕄)
      ⊢ (talk P).payload (sndCell c k) 0 0 := by rw [payload_snd]; exact hpay
  have h2 : ∀ fd, (slPts (rt c) k ((slotM k).view.write (Elt F) fd (src.view.read (Elt F) fs) Finset.univ) : sProp 𝕄)
      ⊢ (talk P).payload (rcvCell (rt c) k) 0 0 := fun fd => by
    rw [payload_rcv]; exact Entails.of_eq (landed P c k fd _ hfs)
  have m1 : (0 : Fin 2) ∈ (talk P).duties (sndCell c k) 0 := by rw [duties_snd]; exact Finset.mem_singleton_self _
  have m2 : (0 : Fin 2) ∈ (talk P).duties (rcvCell (rt c) k) 0 := by rw [duties_rcv]; exact Finset.mem_singleton_self _
  iintro ⟨#HI, #Hlev, ⟨HatS, #HrS, HtS, HatV, HtN, HcV⟩, ⟨⟨%fn, HsN⟩, #HrN⟩, ⟨%W, HO⟩, Hsrc, Hk⟩
  ihave #HIc := (inv_link P κ c k) $$ HI
  ihave #HIn := (inv_link P κ (rt c) k) $$ HI
  icases HIc with ⟨#HIs, #HIv⟩
  icases HIn with ⟨-, #HIvN⟩
  iapply (Rounds.wp_send_pointsTo 𝒱₀ ER (talk P) (c : Thread nD τ) none (c' := (rt c : Thread nD τ)) (src := src) (dst := slotM k)
      (sS := .dma (sndS k)) (sem := .dma (rcvS k)) (q := fullShare) (fs := fs) (κ₁ := κ (sndCell c k)) (κ₂ := κ (rcvCell (rt c) k))
      (r₁ := 0) (r₂ := 0) (d₁ := 0) (d₂ := 0) (fd := fn)
      m1 m2
      () () N (by exact (View.amount_dma _ _).trans (credit _)) (by exact rfl) (by exact rfl) (O₀ := owed c (j + 1)) (owed c j) (congrArg (fun i : Fin 6 => owed c j + tallyAt (rcvCell (rt c) i) () N) hk') (W := W)
      h1 (h2 fn)) $$ [Hsrc HsN HO HtS HtN]
  · isplitr; · iexact HIs
    isplitr; · iexact HIvN
    isplitl [Hsrc]; · iexact Hsrc
    isplitl [HsN]; · iexact HsN
    isplitl [HO]; · iexact HO
    isplitl [HtS]; · iexact HtS
    isplitr; · iexact HrS
    isplitl [HtN]; · iexact HtN
    iexact HrN
  iintro ⟨HcS, HO⟩
  iapply (Rounds.wp_wait_rest_token 𝒱₀ ER (talk P) (c : Thread nD τ) none (κ := κ (sndCell c k)) (k' := N)
      (fun K => waits c _ _ _ K) (Set.mem_univ _) () (O := owed c j) (W := W) (R := 0) (m := 0) (T := ∅)
      ((Nat.zero_add _).trans (expect_snd P c k).symm)) $$ [HcS HO HatS]
  · isplitr; · iexact HIs
    isplitl [HcS]; · iexact HcS
    isplitl [HO]; · iexact HO
    isplitr
    · iapply (mayWait c _ j (by rw [show lvOf (.dma (sndS k)) = 0 from lv_snd c k]; omega))
      iexact Hlev
    iexact HatS
  iintro ⟨HO, HatS, -, Hpay⟩
  ihave Hback := (Entails.of_eq (rest_snd P c k)) $$ Hpay
  iapply (Rounds.wp_wait_rest_token 𝒱₀ ER (talk P) (c : Thread nD τ) none (κ := κ (rcvCell c k)) (k' := N)
      (fun K => waits c _ _ _ K) (Set.mem_univ _) () (O := owed c j)
      (W := insert (SemLoc.dma (sndS k), ()) W) (R := 0) (m := 0) (T := ∅)
      ((Nat.zero_add _).trans (expect_rcv P c k).symm)) $$ [HcV HO HatV]
  · isplitr; · iexact HIv
    isplitl [HcV]; · iexact HcV
    isplitl [HO]; · iexact HO
    isplitr
    · iapply (mayWait c _ j (by rw [show lvOf (.dma (rcvS k)) = 2 + k.val from lv_rcv c k]; omega))
      iexact Hlev
    iexact HatV
  iintro ⟨HO, HatV, -, Hpay⟩
  ihave Hgot := (Entails.of_eq (rest_rcv P c k)) $$ Hpay
  imod (close P (κ (sndCell c k)) (sndCell c k)) $$ [HatS] with Hs0
  · isplitr; · iexact HIs
    iexact HatS
  imod (close P (κ (rcvCell c k)) (rcvCell c k)) $$ [HatV] with Hv0
  · isplitr; · iexact HIv
    iexact HatV
  iapply Hk
  unfold shut rcvPay
  isplitl [Hback]; · iexact Hback
  isplitl [Hgot]; · iexact Hgot
  isplitl [Hs0 Hv0]
  · isplitl [Hs0]; · iexact Hs0
    iexact Hv0
  iexists _; iexact HO

/-! ## Moving a block between the output, the staging buffer and a slot -/

theorem stage_pts (f : S512x1024.Idx → Elt F .bf16) :
    (stageM.view.loc (c : Thread nD τ) ↦[stageM.view.set]{fullShare} f : sProp 𝕄) = pt c cc0_scratch1 f := by
  rw [show stageM.view.set = Finset.univ from View.set_whole _]

theorem stageChunk_run (Q : PUnit.{1} → sProp 𝕄) (q : Dev nD) (o : Fin 2 → ℕ) (ho : ∀ a, o a + S512x1024.size a ≤ S2048x1024.size a)
    (hq : o = ![512 * q.val, 0]) (K : Pg F) (f : S2048x1024.Idx → Elt F .f32) :
    iprop(pt c cc0_stg5_0 f ∗ (∃ g, pt c cc0_scratch1 g)
      ∗ (∀ g, (⌜stageM.view.read (Elt F) g = tr (rd q f)⌝ ∗ pt c cc0_stg5_0 f ∗ pt c cc0_scratch1 g) -∗ runs c Q K))
    ⊢ runs c Q (stageChunk o ho K) := by
  subst hq
  unfold stageChunk
  iintro ⟨Ho, ⟨%g, Hs⟩, Hk⟩
  iapply (wp_load 𝒱₀ (c : Thread nD τ) none Set.univ (m := outM) (Finset.subset_univ _)) $$ Ho
  iintro Ho
  iapply (wp_load 𝒱₀ (c : Thread nD τ) none Set.univ (m := stageM) (Finset.subset_univ _)) $$ Hs
  iintro Hs
  iapply (wp_store 𝒱₀ (c : Thread nD τ) none Set.univ (m := stageM) (r := fullR) (Finset.subset_univ _)) $$ Hs
  iintro Hs
  iapply Hk $$ %((stageM.access fullR).write (Elt F) g (tr (rd q f)) Finset.univ) [Ho Hs]
  isplitr
  · ipureintro; exact stage_read g (tr (rd q f))
  isplitl [Ho]; · iexact Ho
  iexact Hs

theorem addSlot_run (Q : PUnit.{1} → sProp 𝕄) (k : Fin 6) (q : Dev nD) (o : Fin 2 → ℕ)
    (ho : ∀ a, o a + S512x1024.size a ≤ S2048x1024.size a)
    (hq : o = ![512 * q.val, 0]) (K : Pg F) (f : S2048x1024.Idx → Elt F .f32) :
    iprop(pt c cc0_stg5_0 f ∗ slPts c k (commV P c)
      ∗ ((pt c cc0_stg5_0 (wr q (add3 (rd q f) (sv P k.val (lt c))) f) ∗ slPts c k (commV P c)) -∗ runs c Q K))
    ⊢ runs c Q (addSlot k o ho K) := by
  subst hq
  unfold addSlot
  iintro ⟨Ho, Hs, Hk⟩
  iapply (wp_load 𝒱₀ (c : Thread nD τ) none Set.univ (m := outM) (Finset.subset_univ _)) $$ Ho
  iintro Ho
  iapply (wp_load 𝒱₀ (c : Thread nD τ) none Set.univ (m := commM) (slot_set k)) $$ Hs
  iintro Hs
  rw [slot_load P c k]
  iapply (wp_load 𝒱₀ (c : Thread nD τ) none Set.univ (m := outM) (Finset.subset_univ _)) $$ Ho
  iintro Ho
  iapply (wp_store 𝒱₀ (c : Thread nD τ) none Set.univ (m := outM) (r := chunkR q) (Finset.subset_univ _)) $$ Ho
  iintro Ho
  iapply Hk $$ [Ho Hs]
  isplitl [Ho]; · iexact Ho
  iexact Hs

theorem putSlot_run (Q : PUnit.{1} → sProp 𝕄) (k : Fin 6) (q : Dev nD) (o : Fin 2 → ℕ)
    (ho : ∀ a, o a + S512x1024.size a ≤ S2048x1024.size a)
    (hq : o = ![512 * q.val, 0]) (K : Pg F) (f : S2048x1024.Idx → Elt F .f32) :
    iprop(pt c cc0_stg5_0 f ∗ slPts c k (commV P c)
      ∗ ((pt c cc0_stg5_0 (wr q (ex (sv P k.val (lt c))) f) ∗ slPts c k (commV P c)) -∗ runs c Q K))
    ⊢ runs c Q (putSlot k o ho K) := by
  subst hq
  unfold putSlot
  iintro ⟨Ho, Hs, Hk⟩
  iapply (wp_load 𝒱₀ (c : Thread nD τ) none Set.univ (m := commM) (slot_set k)) $$ Hs
  iintro Hs
  rw [slot_load P c k]
  iapply (wp_load 𝒱₀ (c : Thread nD τ) none Set.univ (m := outM) (Finset.subset_univ _)) $$ Ho
  iintro Ho
  iapply (wp_store 𝒱₀ (c : Thread nD τ) none Set.univ (m := outM) (r := chunkR q) (Finset.subset_univ _)) $$ Ho
  iintro Ho
  iapply Hk $$ [Ho Hs]
  isplitl [Ho]; · iexact Ho
  iexact Hs

end Values

end Cert.Proof

end
-- ==== Proof.Body.lean ====
/-
  The whole body on one device: the meeting of the neighbours at the barrier, the attention part (`attn_run`), and the ring
  exchange of the partial products. `body_run` states what the device holds before and after.
-/
module

public import proofs.«01_k».proof.Proof.Hop

@[expose] public section

noncomputable section

namespace Cert.Proof

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The receive buffer, slot by slot -/

theorem six (Φ : Fin 6 → sProp 𝕄) :
    bigSep Finset.univ Φ = iprop(Φ 0 ∗ Φ 1 ∗ Φ 2 ∗ Φ 3 ∗ Φ 4 ∗ Φ 5) := by
  rw [bigSep_eq_bigSepL_of_eq [0, 1, 2, 3, 4, 5] (by decide) (by decide)]
  rfl

theorem mem_slot (k : Fin 6) (i : S6x512x1024.Idx) : i ∈ (slotM k).view.set ↔ (i (0 : Fin 3)).val = k.val := by
  constructor
  · intro hi
    obtain ⟨j, -, rfl⟩ := Finset.mem_map.mp hi
    exact slot_emb_0 k j
  · intro h
    refine Finset.mem_map.mpr ⟨at2 (i (1 : Fin 3)).val (i (2 : Fin 3)).val (i (1 : Fin 3)).isLt (i (2 : Fin 3)).isLt, Finset.mem_univ _, ?_⟩
    funext a
    match a with
    | ⟨0, _⟩ => exact Fin.ext ((slot_emb_0 k _).trans h.symm)
    | ⟨1, _⟩ => exact Fin.ext (slot_emb_1 k _)
    | ⟨2, _⟩ => exact Fin.ext (slot_emb_2 k _)

theorem slot_disjoint (k k' : Fin 6) (h : k ≠ k') : Disjoint (slotM k).view.set (slotM k').view.set :=
  Finset.disjoint_left.mpr fun i hi hi' =>
    h (Fin.ext (((mem_slot k i).mp hi).symm.trans ((mem_slot k' i).mp hi')))

theorem slot_cover : Finset.univ.biUnion (fun k : Fin 6 => (slotM k).view.set) = (Finset.univ : Finset S6x512x1024.Idx) :=
  Finset.eq_univ_iff_forall.mpr fun i =>
    Finset.mem_biUnion.mpr ⟨(i (0 : Fin 3) : Fin 6), Finset.mem_univ _, (mem_slot _ i).mpr rfl⟩

theorem slots_split (c : Dev nD) (f : S6x512x1024.Idx → Elt F .bf16) :
    (pt c cc0_scratch2 f : sProp 𝕄) = bigSep Finset.univ fun k : Fin 6 => slPts c k f := by
  exact (congrArg (fun I : Finset S6x512x1024.Idx => (commM.view.loc (c : Thread nD τ) ↦[I]{fullShare} f : sProp 𝕄)) slot_cover.symm).trans
    (pointsTo_biUnion (ℓ := commM.view.loc (c : Thread nD τ)) Finset.univ (fun k : Fin 6 => (slotM k).view.set)
      (fun k _ k' _ h => slot_disjoint k k' h))

theorem slots_join (c : Dev nD) :
    (bigSep Finset.univ fun k : Fin 6 => iprop(∃ f, slPts c k f)) ⊢ (iprop(∃ f, pt c cc0_scratch2 f) : sProp 𝕄) := by
  have hj : ∀ fs : Fin 6 → (S6x512x1024.Idx → Elt F .bf16),
      (bigSep Finset.univ fun k : Fin 6 => slPts c k (fs k)) ⊢ (iprop(∃ f, pt c cc0_scratch2 f) : sProp 𝕄) := fun fs => by
    have h := pointsTo_biUnion_join (q := fullShare) (U := UU) (Ix := Unit) (Name := ℕ) (Lvl := ℕ) (ℓ := commM.view.loc (c : Thread nD τ)) Finset.univ (fun k : Fin 6 => (slotM k).view.set) fs (fs 0)
      (fun k _ k' _ h => slot_disjoint k k' h)
    refine h.trans ?_
    rw [show (Finset.univ.biUnion fun k : Fin 6 => (slotM k).view.set) = (Finset.univ : Finset S6x512x1024.Idx) from slot_cover]
    iintro ⟨%g, -, H⟩
    iexists g
    iexact H
  rw [six]
  iintro ⟨⟨%f0, H0⟩, ⟨%f1, H1⟩, ⟨%f2, H2⟩, ⟨%f3, H3⟩, ⟨%f4, H4⟩, ⟨%f5, H5⟩⟩
  iapply (hj ![f0, f1, f2, f3, f4, f5])
  rw [six]
  isplitl [H0]; · iexact H0
  isplitl [H1]; · iexact H1
  isplitl [H2]; · iexact H2
  isplitl [H3]; · iexact H3
  isplitl [H4]; · iexact H4
  iexact H5

/-! ## The ring -/

theorem slot_exact : ∀ k : Fin 6, (slotM k).view.WordExact
  | 0 => ((Memref.isWhole_whole _).wordExact_slice rfl _ wordsbf16_S6x512x1024_S1x512x1024_0_0_0).reshape _ _
  | 1 => ((Memref.isWhole_whole _).wordExact_slice rfl _ wordsbf16_S6x512x1024_S1x512x1024_1_0_0).reshape _ _
  | 2 => ((Memref.isWhole_whole _).wordExact_slice rfl _ wordsbf16_S6x512x1024_S1x512x1024_2_0_0).reshape _ _
  | 3 => ((Memref.isWhole_whole _).wordExact_slice rfl _ wordsbf16_S6x512x1024_S1x512x1024_3_0_0).reshape _ _
  | 4 => ((Memref.isWhole_whole _).wordExact_slice rfl _ wordsbf16_S6x512x1024_S1x512x1024_4_0_0).reshape _ _
  | 5 => ((Memref.isWhole_whole _).wordExact_slice rfl _ wordsbf16_S6x512x1024_S1x512x1024_5_0_0).reshape _ _

theorem stage_exact : stageM.view.WordExact := (Memref.isWhole_whole cc0_scratch1).wordExact

abbrev dv (n : ℕ) (h : n < nD) : Dev nD := ⟨n, h⟩

/-- The exchange, as the body of the kernel runs it on device `c` after the attention part. -/
def ringProg (c : Dev nD) : Pg F :=
  stageChunk (k0_off1 c 0#32) (k0_off1_inb c 0) <|
  hop (dv (k0_dev3 c) (k0_dev3_lt c)) 0 stageM stage_exact (slot_exact 0) <|
  addSlot 0 (k0_off2 c 0#32) (k0_off2_inb c 0) <|
  stageChunk (k0_off1 c 1#32) (k0_off1_inb c 1) <|
  hop (dv (k0_dev4 c) (k0_dev4_lt c)) 1 stageM stage_exact (slot_exact 1) <|
  addSlot 1 (k0_off2 c 1#32) (k0_off2_inb c 1) <|
  stageChunk (k0_off1 c 2#32) (k0_off1_inb c 2) <|
  hop (dv (k0_dev5 c) (k0_dev5_lt c)) 2 stageM stage_exact (slot_exact 2) <|
  addSlot 2 (k0_off2 c 2#32) (k0_off2_inb c 2) <|
  stageChunk (k0_off3 c) (k0_off3_inb c) <|
  hop (dv (k0_dev6 c) (k0_dev6_lt c)) 3 stageM stage_exact (slot_exact 3) <|
  putSlot 3 (k0_off1 c 0#32) (k0_off1_inb c 0) <|
  hop (dv (k0_dev7 c) (k0_dev7_lt c)) 4 (slotM 3) (slot_exact 3) (slot_exact 4) <|
  putSlot 4 (k0_off1 c 1#32) (k0_off1_inb c 1) <|
  hop (dv (k0_dev8 c) (k0_dev8_lt c)) 5 (slotM 4) (slot_exact 4) (slot_exact 5) <|
  putSlot 5 (k0_off1 c 2#32) (k0_off1_inb c 2) <|
  .ret ⟨⟩

section Values

variable (P : Dev nD → S2048x1024.Idx → Elt F .f32)

/-- The output of device `c` after the three adding rounds. -/
def sumOut (c : Dev nD) : S2048x1024.Idx → Elt F .f32 :=
  wr (ck 3 c) (acc P 3 c) (wr (ck 2 c) (acc P 2 c) (wr (ck 1 c) (acc P 1 c) (P c)))

/-- The output of device `c` at the end. -/
def finalOut (c : Dev nD) : S2048x1024.Idx → Elt F .f32 :=
  wr (ck 2 c) (ex (sv P 5 (lt c))) (wr (ck 1 c) (ex (sv P 4 (lt c))) (wr (ck 0 c) (ex (sv P 3 (lt c))) (sumOut P c)))

theorem ck_ne (c : Dev nD) : ck 1 c ≠ ck 2 c ∧ ck 2 c ≠ ck 3 c ∧ ck 1 c ≠ ck 3 c ∧ ck 0 c ≠ ck 1 c ∧ ck 0 c ≠ ck 2 c ∧ ck 0 c ≠ ck 3 c := by
  revert c; decide

/-- What the ring needs. -/
def ringPre (c : Dev nD) : sProp 𝕄 :=
  iprop((bigSep Finset.univ fun k : Fin 6 => link c k) ∗ (bigSep Finset.univ fun k : Fin 6 => lent c k) ∗ owing c 6
    ∗ pt c cc0_stg5_0 (P c) ∗ ∃ g, pt c cc0_scratch1 g)

/-- What the ring leaves. -/
def ringPost (c : Dev nD) : sProp 𝕄 :=
  iprop((bigSep Finset.univ fun k : Fin 6 => shut c k) ∗ owing c 0
    ∗ pt c cc0_stg5_0 (finalOut P c) ∗ (∃ g, pt c cc0_scratch1 g) ∗ ∃ g, pt c cc0_scratch2 g)

theorem slot_src (c : Dev nD) (k : Fin 6) (i : Fin 6) (f : S6x512x1024.Idx → Elt F .bf16) (h : sndPay (F := F) c k = iprop(∃ f, slPts c i f)) :
    (slPts c i f : sProp 𝕄) ⊢ sndPay c k := by
  rw [h]
  iintro H
  iexists f
  iexact H

theorem stage_src (c : Dev nD) (k : Fin 6) (f : S512x1024.Idx → Elt F .bf16) (h : sndPay (F := F) c k = iprop(∃ f, pt c cc0_scratch1 f)) :
    (stageM.view.loc (c : Thread nD τ) ↦[stageM.view.set]{fullShare} f : sProp 𝕄) ⊢ sndPay c k := by
  rw [h, stage_pts]
  iintro H
  iexists f
  iexact H

variable (c : Dev nD) (κ : GSem nD τ sig → ℕ)

/-- A chunk staged and sent round: the staging buffer comes back, slot `k` holds what the left neighbour sent. -/
theorem stageHop_run (Q : PUnit.{1} → sProp 𝕄) (k : Fin 6) (j : ℕ) (hj : j + k.val = 5) (d : Dev nD) (hd : d = rt c)
    (q : Dev nD) (o : Fin 2 → ℕ) (ho : ∀ a, o a + S512x1024.size a ≤ S2048x1024.size a) (hq : o = ![512 * q.val, 0])
    (hpay : sndPay (F := F) c k = iprop(∃ f, pt c cc0_scratch1 f))
    (f : S2048x1024.Idx → Elt F .f32) (hf : sv P k.val c = tr (rd q f)) (K : Pg F) :
    iprop(invs P κ ∗ levAts L lv ∗ link c k ∗ lent c k ∗ owing c (j + 1) ∗ pt c cc0_stg5_0 f ∗ (∃ g, pt c cc0_scratch1 g)
      ∗ ((pt c cc0_stg5_0 f ∗ (∃ g, pt c cc0_scratch1 g) ∗ slPts c k (commV P c) ∗ shut c k ∗ owing c j) -∗ runs c Q K))
    ⊢ runs c Q (stageChunk o ho <| hop d k stageM stage_exact (slot_exact k) K) := by
  iintro ⟨#HI, #Hlev, Hl, Hn, HO, Ho, Hs, Hk⟩
  iapply (stageChunk_run c Q q o ho hq)
  isplitl [Ho]; · iexact Ho
  isplitl [Hs]; · iexact Hs
  iintro %g ⟨%hg, Ho, Hs⟩
  iapply (hop_run P c κ Q k j hj d hd stageM stage_exact (slot_exact k) K g (hg.trans hf.symm) (stage_src c k g hpay))
  isplitr; · iexact HI
  isplitr; · iexact Hlev
  isplitl [Hl]; · iexact Hl
  isplitl [Hn]; · iexact Hn
  isplitl [HO]; · iexact HO
  isplitl [Hs]
  · rw [stage_pts]; iexact Hs
  rw [hpay]
  iintro ⟨Hs, Hslot, Hshut, HO⟩
  iapply Hk
  isplitl [Ho]; · iexact Ho
  isplitl [Hs]; · iexact Hs
  isplitl [Hslot]; · iexact Hslot
  isplitl [Hshut]; · iexact Hshut
  iexact HO

/-- A slot sent on: it comes back at some contents, slot `k` holds what the left neighbour sent. -/
theorem slotHop_run (Q : PUnit.{1} → sProp 𝕄) (k i : Fin 6) (j : ℕ) (hj : j + k.val = 5) (d : Dev nD) (hd : d = rt c)
    (hpay : sndPay (F := F) c k = iprop(∃ f, slPts c i f)) (hf : sv P k.val c = sv P i.val (lt c)) (K : Pg F) :
    iprop(invs P κ ∗ levAts L lv ∗ link c k ∗ lent c k ∗ owing c (j + 1) ∗ slPts c i (commV P c)
      ∗ (((∃ f, slPts c i f) ∗ slPts c k (commV P c) ∗ shut c k ∗ owing c j) -∗ runs c Q K))
    ⊢ runs c Q (hop d k (slotM i) (slot_exact i) (slot_exact k) K) := by
  rw [← hpay]
  exact hop_run P c κ Q k j hj d hd (slotM i) (slot_exact i) (slot_exact k) K (commV P c) ((slot_read P c i).trans hf.symm)
    (slot_src c k i (commV P c) hpay)

attribute [local irreducible] acc sv rd wr tr add3 ex commV

/-- The two kinds of round, put together: the ring. -/
theorem ring_run (Q : PUnit.{1} → sProp 𝕄) :
    iprop(invs P κ ∗ levAts L lv ∗ ringPre P c ∗ (ringPost P c -∗ Q ⟨⟩)) ⊢ runs c Q (ringProg c) := by
  have dev : k0_dev3 c = (rt c).val ∧ k0_dev4 c = (rt c).val ∧ k0_dev5 c = (rt c).val ∧ k0_dev6 c = (rt c).val
      ∧ k0_dev7 c = (rt c).val ∧ k0_dev8 c = (rt c).val := by revert c; decide
  obtain ⟨d3, d4, d5, d6, d7, d8⟩ := dev
  have off : k0_off1 c 0#32 = ![512 * (ck 0 c).val, 0] ∧ k0_off1 c 1#32 = ![512 * (ck 1 c).val, 0]
      ∧ k0_off1 c 2#32 = ![512 * (ck 2 c).val, 0] ∧ k0_off2 c 0#32 = ![512 * (ck 1 c).val, 0]
      ∧ k0_off2 c 1#32 = ![512 * (ck 2 c).val, 0] ∧ k0_off2 c 2#32 = ![512 * (ck 3 c).val, 0]
      ∧ k0_off3 c = ![512 * (ck 3 c).val, 0] := by revert c; decide
  obtain ⟨o10, o11, o12, o20, o21, o22, o3⟩ := off
  obtain ⟨n12, n23, n13, n01, n02, n03⟩ := ck_ne c
  have a1 : add3 (rd (ck 1 c) (P c)) (sv P 0 (lt c)) = acc P 1 c := by rw [acc_succ, sv_0]
  have a2 : add3 (rd (ck 2 c) (wr (ck 1 c) (acc P 1 c) (P c))) (sv P 1 (lt c)) = acc P 2 c := by
    rw [rd_wr_ne _ _ n12.symm, acc_succ P 1, sv_1]
  have a3 : add3 (rd (ck 3 c) (wr (ck 2 c) (acc P 2 c) (wr (ck 1 c) (acc P 1 c) (P c)))) (sv P 2 (lt c)) = acc P 3 c := by
    rw [rd_wr_ne _ _ n23.symm, rd_wr_ne _ _ n13.symm, acc_succ P 2, sv_2]
  unfold ringProg ringPre
  rw [six, six]
  iintro ⟨#HI, #Hlev, ⟨⟨Hl0, Hl1, Hl2, Hl3, Hl4, Hl5⟩, ⟨Hn0, Hn1, Hn2, Hn3, Hn4, Hn5⟩, HO, Ho, Hs⟩, Hk⟩
  iapply (stageHop_run P c κ Q 0 5 rfl _ (Fin.ext d3) (ck 0 c) _ _ o10 rfl (P c) (by rw [← acc_zero]; exact sv_0 P c))
  isplitr; · iexact HI
  isplitr; · iexact Hlev
  isplitl [Hl0]; · iexact Hl0
  isplitl [Hn0]; · iexact Hn0
  isplitl [HO]; · iexact HO
  isplitl [Ho]; · iexact Ho
  isplitl [Hs]; · iexact Hs
  iintro ⟨Ho, Hs, Hc0, Hz0, HO⟩
  iapply (addSlot_run P c Q 0 (ck 1 c) _ _ o20)
  isplitl [Ho]; · iexact Ho
  isplitl [Hc0]; · iexact Hc0
  rw [show ((0 : Fin 6).val) = 0 from rfl, a1]
  iintro ⟨Ho, Hc0⟩
  iapply (stageHop_run P c κ Q 1 4 rfl _ (Fin.ext d4) (ck 1 c) _ _ o11 rfl (wr (ck 1 c) (acc P 1 c) (P c)) (by rw [rd_wr]; exact sv_1 P c))
  isplitr; · iexact HI
  isplitr; · iexact Hlev
  isplitl [Hl1]; · iexact Hl1
  isplitl [Hn1]; · iexact Hn1
  isplitl [HO]; · iexact HO
  isplitl [Ho]; · iexact Ho
  isplitl [Hs]; · iexact Hs
  iintro ⟨Ho, Hs, Hc1, Hz1, HO⟩
  iapply (addSlot_run P c Q 1 (ck 2 c) _ _ o21)
  isplitl [Ho]; · iexact Ho
  isplitl [Hc1]; · iexact Hc1
  rw [show ((1 : Fin 6).val) = 1 from rfl, a2]
  iintro ⟨Ho, Hc1⟩
  iapply (stageHop_run P c κ Q 2 3 rfl _ (Fin.ext d5) (ck 2 c) _ _ o12 rfl (wr (ck 2 c) (acc P 2 c) (wr (ck 1 c) (acc P 1 c) (P c))) (by rw [rd_wr]; exact sv_2 P c))
  isplitr; · iexact HI
  isplitr; · iexact Hlev
  isplitl [Hl2]; · iexact Hl2
  isplitl [Hn2]; · iexact Hn2
  isplitl [HO]; · iexact HO
  isplitl [Ho]; · iexact Ho
  isplitl [Hs]; · iexact Hs
  iintro ⟨Ho, Hs, Hc2, Hz2, HO⟩
  iapply (addSlot_run P c Q 2 (ck 3 c) _ _ o22)
  isplitl [Ho]; · iexact Ho
  isplitl [Hc2]; · iexact Hc2
  rw [show ((2 : Fin 6).val) = 2 from rfl, a3]
  iintro ⟨Ho, Hc2⟩
  iapply (stageHop_run P c κ Q 3 2 rfl _ (Fin.ext d6) (ck 3 c) _ _ o3 rfl (wr (ck 3 c) (acc P 3 c) (wr (ck 2 c) (acc P 2 c) (wr (ck 1 c) (acc P 1 c) (P c)))) (by rw [rd_wr]; exact sv_3 P c))
  isplitr; · iexact HI
  isplitr; · iexact Hlev
  isplitl [Hl3]; · iexact Hl3
  isplitl [Hn3]; · iexact Hn3
  isplitl [HO]; · iexact HO
  isplitl [Ho]; · iexact Ho
  isplitl [Hs]; · iexact Hs
  iintro ⟨Ho, Hs, Hc3, Hz3, HO⟩
  iapply (putSlot_run P c Q 3 (ck 0 c) _ _ o10)
  isplitl [Ho]; · iexact Ho
  isplitl [Hc3]; · iexact Hc3
  iintro ⟨Ho, Hc3⟩
  iapply (slotHop_run P c κ Q 4 3 1 rfl _ (Fin.ext d7) rfl (sv_4 P c))
  isplitr; · iexact HI
  isplitr; · iexact Hlev
  isplitl [Hl4]; · iexact Hl4
  isplitl [Hn4]; · iexact Hn4
  isplitl [HO]; · iexact HO
  isplitl [Hc3]; · iexact Hc3
  iintro ⟨Hc3, Hc4, Hz4, HO⟩
  iapply (putSlot_run P c Q 4 (ck 1 c) _ _ o11)
  isplitl [Ho]; · iexact Ho
  isplitl [Hc4]; · iexact Hc4
  iintro ⟨Ho, Hc4⟩
  iapply (slotHop_run P c κ Q 5 4 0 rfl _ (Fin.ext d8) rfl (sv_5 P c))
  isplitr; · iexact HI
  isplitr; · iexact Hlev
  isplitl [Hl5]; · iexact Hl5
  isplitl [Hn5]; · iexact Hn5
  isplitl [HO]; · iexact HO
  isplitl [Hc4]; · iexact Hc4
  iintro ⟨Hc4, Hc5, Hz5, HO⟩
  iapply (putSlot_run P c Q 5 (ck 2 c) _ _ o12)
  isplitl [Ho]; · iexact Ho
  isplitl [Hc5]; · iexact Hc5
  iintro ⟨Ho, Hc5⟩
  unfold runs
  rw [wp_ret]
  imodintro
  iapply Hk
  unfold ringPost finalOut sumOut
  rw [six]
  isplitl [Hz0 Hz1 Hz2 Hz3 Hz4 Hz5]
  · isplitl [Hz0]; · iexact Hz0
    isplitl [Hz1]; · iexact Hz1
    isplitl [Hz2]; · iexact Hz2
    isplitl [Hz3]; · iexact Hz3
    isplitl [Hz4]; · iexact Hz4
    iexact Hz5
  isplitl [HO]; · iexact HO
  isplitl [Ho]; · iexact Ho
  isplitl [Hs]; · iexact Hs
  iapply (slots_join c)
  rw [six]
  isplitl [Hc0]; · iexists _; iexact Hc0
  isplitl [Hc1]; · iexists _; iexact Hc1
  isplitl [Hc2]; · iexists _; iexact Hc2
  isplitl [Hc3]; · iexact Hc3
  isplitl [Hc4]; · iexact Hc4
  iexists _; iexact Hc5

/-! ## The meeting at the barrier -/

/-- Signal both neighbours, then wait for both. -/
def meetProg (c : Dev nD) (K : Pg F) : Pg F :=
  .op (.semSignal (Dev.tc (dv (k0_dev1 c) (k0_dev1_lt c))) barS 1) fun _ =>
  .op (.semSignal (Dev.tc (dv (k0_dev2 c) (k0_dev2_lt c))) barS 1) fun _ =>
  .op (.semWait barS 2) fun _ => K

/-- What the meeting needs. -/
def meetPre (c : Dev nD) : sProp 𝕄 :=
  iprop(reached ER (barCell (lt c)) 0 ∗ reached ER (barCell (rt c)) 0
    ∗ dutyTok ER (barCell (lt c)) 0 0 ∗ dutyTok ER (barCell (rt c)) 0 1
    ∗ atPos ER (barCell c) 0 ∅ 0 ∗ cred (tallyAt (barCell c) () 2)
    ∗ (∃ W, owes (c : Thread nD τ) (O₀ c) W)
    ∗ bigSep Finset.univ fun k : Fin 6 => iprop((∃ f, slPts c k f) ∗ reached ER (rcvCell c k) 0))

theorem meet_run (Q : PUnit.{1} → sProp 𝕄) (K : Pg F) :
    iprop(invs P κ ∗ levAts L lv ∗ meetPre c
      ∗ ((semVal (barCell c) 0 ∗ (bigSep Finset.univ fun k : Fin 6 => lent c k) ∗ owing c 6) -∗ runs c Q K))
    ⊢ runs c Q (meetProg c K) := by
  have e1 : dv (k0_dev1 c) (k0_dev1_lt c) = lt c := by revert c; decide
  have e2 : dv (k0_dev2 c) (k0_dev2_lt c) = rt c := by revert c; decide
  have m1 : (0 : Fin 2) ∈ (talk P).duties (barCell (lt c)) 0 := Finset.mem_univ _
  have m2 : (1 : Fin 2) ∈ (talk P).duties (barCell (rt c)) 0 := Finset.mem_univ _
  unfold meetProg meetPre
  rw [e1, e2]
  iintro ⟨#HI, #Hlev, ⟨#HrL, #HrR, HtL, HtR, Hat, Hcr, ⟨%W, HO⟩, Hsl⟩, Hk⟩
  ihave #HIL := (inv_bar P κ (lt c)) $$ HI
  ihave #HIR := (inv_bar P κ (rt c)) $$ HI
  ihave #HIc := (inv_bar P κ c) $$ HI
  iapply (Rounds.wp_signal 𝒱₀ ER (talk P) (c : Thread nD τ) none (dst := (lt c : Thread nD τ)) (sem := barS) (r := 0) (d := 0)
      (κ := κ (barCell (lt c))) m1 rfl () (owed c 6 + tallyAt (barCell (rt c)) () 1) (O₀ := O₀ c) rfl) $$ [HO HtL Hsl]
  · isplitr; · iexact HIL
    isplitl [HO]; · iexact HO
    isplitl [HtL]; · iexact HtL
    isplitl [Hsl]
    · rw [payload_bar]; unfold barPay; rw [rt_lt]
      iexact Hsl
    · iexact HrL
  iintro HO
  iapply (Rounds.wp_signal 𝒱₀ ER (talk P) (c : Thread nD τ) none (dst := (rt c : Thread nD τ)) (sem := barS) (r := 0) (d := 1)
      (κ := κ (barCell (rt c))) m2 rfl () (owed c 6) rfl) $$ [HO HtR]
  · isplitr; · iexact HIR
    isplitl [HO]; · iexact HO
    isplitl [HtR]; · iexact HtR
    isplitr
    · rw [payload_bar]; unfold barPay
      iempintro
    · iexact HrR
  iintro HO
  iapply (Rounds.wp_wait_rest_token 𝒱₀ ER (talk P) (c : Thread nD τ) none (κ := κ (barCell c))
      (wpE_semWait_eq 𝒱₀ (c : Thread nD τ) none Set.univ) (Set.mem_univ _) () (O := owed c 6) (W := W) (R := 0) (m := 0) (T := ∅)
      ((Nat.zero_add 2).trans (expect_bar P c).symm)) $$ [Hcr HO Hat]
  · isplitr; · iexact HIc
    isplitl [Hcr]; · iexact Hcr
    isplitl [HO]; · iexact HO
    isplitr; · iapply (mayWait c _ 6 (by decide)); iexact Hlev
    iexact Hat
  iintro ⟨HO, Hat, -, Hpay⟩
  ihave Hp := (Entails.of_eq (rest_bar P c)) $$ Hpay
  unfold barPay
  icases Hp with ⟨Hp, -⟩
  imod (close P (κ (barCell c)) (barCell c)) $$ [Hat] with Hb0
  · isplitr; · iexact HIc
    iexact Hat
  iapply Hk
  isplitl [Hb0]; · iexact Hb0
  isplitl [Hp]
  · unfold lent
    iexact Hp
  unfold owing
  iexists _; iexact HO

end Values

end Cert.Proof

end
-- ==== Proof.Whole.lean ====
/-
  The whole body of the kernel on one device: the meeting at the barrier, the attention part, the ring exchange.
-/
module

public import proofs.«01_k».proof.Proof.Body
public import proofs.«01_k».proof.Proof.Attn

@[expose] public section

noncomputable section

namespace Cert.Proof

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The program in three pieces -/

/-- The body at the buffers the launch hands it. -/
abbrev wholeProg : Pg F :=
  cc0__body (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _)
    (Memref.whole cc0_stg4_0) (Memref.isWhole_whole _) (Memref.whole cc0_stg5_0) (Memref.isWhole_whole _)
    (Memref.whole cc0_scratch0) (Memref.isWhole_whole _) (Memref.whole cc0_scratch1) (Memref.isWhole_whole _)
    (Memref.whole cc0_scratch2) (Memref.isWhole_whole _) cc0_scratch3 cc0_scratch4

/-- The attention part at the same buffers. -/
abbrev attnHere (v2 : BitVec 32) (K : BitVec 32 → BitVec 32 → Pg F) : Pg F :=
  attnProg (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _)
    (Memref.whole cc0_stg4_0) (Memref.isWhole_whole _) (Memref.whole cc0_stg5_0) (Memref.isWhole_whole _)
    (Memref.whole cc0_scratch0) (Memref.isWhole_whole _) (Memref.whole cc0_scratch1) (Memref.isWhole_whole _)
    (Memref.whole cc0_scratch2) (Memref.isWhole_whole _) cc0_scratch3 cc0_scratch4 v2 K

/-- Two chains of programs are equal when their first pieces are the same and the rest is. -/
theorem chain_cont.{v} {E : Type → Type v} {α β γ : Type} {p : Prog E α} {f : α → Prog E β} {g : β → Prog E γ} {h : α → Prog E γ}
    (e : ∀ x, f x >>= g = h x) : (p >>= f) >>= g = p >>= h := by
  rw [bind_assoc]
  exact congrArg _ (funext e)

/-- The device's number as the body computes it. -/
def w2 (c : Dev nD) : BitVec 32 := Scalar.remsi (Scalar.divsi (Dev.word c) 1#32) 4#32
/-- The right neighbour's number as the body computes it. -/
def w25 (c : Dev nD) : BitVec 32 :=
  let v17 : BitVec 32 := Scalar.select (Scalar.cmpi .eq 4#32 0#32) 1#32 4#32
  let v18 : BitVec 32 := Scalar.remsi (Scalar.addi (w2 c) 1#32) v17
  Scalar.select (Scalar.andi (Scalar.xori (Scalar.cmpi .slt v18 0#32) (Scalar.cmpi .slt v17 0#32)) (Scalar.cmpi .ne v18 0#32))
    (Scalar.addi v18 v17) v18

/-- The first piece: the device reads its number, then meets its neighbours. -/
theorem meet_piece (g : (Σ' (_ : Dev nD) (_ : BitVec 32), BitVec 32) → Pg F) :
    (k0_part1 (Memref.whole cc0_stg0_0) (Memref.isWhole_whole _) (Memref.whole cc0_stg1_0) (Memref.isWhole_whole _)
      (Memref.whole cc0_stg2_0) (Memref.isWhole_whole _) (Memref.whole cc0_stg3_0) (Memref.isWhole_whole _)
      (Memref.whole cc0_stg4_0) (Memref.isWhole_whole _) (Memref.whole cc0_stg5_0) (Memref.isWhole_whole _)
      (Memref.whole cc0_scratch0) (Memref.isWhole_whole _) (Memref.whole cc0_scratch1) (Memref.isWhole_whole _)
      (Memref.whole cc0_scratch2) (Memref.isWhole_whole _) cc0_scratch3 cc0_scratch4 >>= g)
      = .op .deviceId fun c => meetProg c (g ⟨c, w2 c, w25 c⟩) := by
  rw [k0_part1_eq_skeleton]
  rfl

/-- The body is the meeting, the attention part and the ring exchange. -/
theorem whole_eq :
    wholeProg (F := F) = .op .deviceId fun c => meetProg c (attnHere (w2 c) fun _ _ => ringProg c) := by
  unfold wholeProg
  rw [cc0__body_eq_skeleton]
  unfold cc0__body_skel
  rw [k0_part44_eq_skeleton]
  unfold k0_part44_skel
  rw [bind_assoc, meet_piece]
  refine congrArg _ (funext fun c => congrArg (meetProg c) ?_)
  unfold attnHere attnProg
  iterate 33 refine chain_cont fun x => ?_
  rfl

/-- A family of pairs is a pair of families. -/
theorem unzip {I : Type} [Fintype I] {Φ Ψ : I → sProp 𝕄} :
    (bigSep Finset.univ fun i => iprop(Φ i ∗ Ψ i) : sProp 𝕄) ⊢ iprop(bigSep Finset.univ Φ ∗ bigSep Finset.univ Ψ) :=
  Entails.of_eq (bigSep_sep' _ _ _)
theorem zip {I : Type} [Fintype I] {Φ Ψ : I → sProp 𝕄} :
    (iprop(bigSep Finset.univ Φ ∗ bigSep Finset.univ Ψ) : sProp 𝕄) ⊢ bigSep Finset.univ fun i => iprop(Φ i ∗ Ψ i) :=
  Entails.of_eq (bigSep_sep' _ _ _).symm

theorem slot_any (c : Dev nD) (f : S6x512x1024.Idx → Elt F .bf16) (k : Fin 6) : (slPts c k f : sProp 𝕄) ⊢ iprop(∃ f, slPts c k f) := by
  iintro H
  iexists f
  iexact H

theorem slots_any (c : Dev nD) (f : S6x512x1024.Idx → Elt F .bf16) :
    (bigSep Finset.univ fun k : Fin 6 => slPts c k f : sProp 𝕄) ⊢ bigSep Finset.univ fun k : Fin 6 => iprop(∃ f, slPts c k f) :=
  bigSep_mono fun k _ => slot_any c f k

/-! ## What the body holds of the exchange -/

/-- The rights to copy `k` before its cells are opened. -/
def sealed (c : Dev nD) (k : Fin 6) : sProp 𝕄 :=
  iprop(openTok ER (sndCell c k) ∗ openTok ER (rcvCell c k) ∗ dutyTok ER (sndCell c k) 0 0
    ∗ dutyTok ER (rcvCell (rt c) k) 0 0 ∗ cred (tallyAt (rcvCell c k) () N))

/-- The rights to the meeting. -/
def start (c : Dev nD) : sProp 𝕄 :=
  iprop(reached ER (barCell (lt c)) 0 ∗ reached ER (barCell (rt c)) 0
    ∗ dutyTok ER (barCell (lt c)) 0 0 ∗ dutyTok ER (barCell (rt c)) 0 1
    ∗ atPos ER (barCell c) 0 ∅ 0 ∗ cred (tallyAt (barCell c) () 2))

section Values

variable (P : Dev nD → S2048x1024.Idx → Elt F .f32)

/-- One copy's two cells, opened. -/
theorem link_open (κ : GSem nD τ sig → ℕ) (c : Dev nD) (k : Fin 6) :
    iprop(invs P κ ∗ (sealed c k ∗ shut c k)) ⊢ (|={Set.univ}=> iprop(link c k ∗ reached ER (rcvCell c k) 0) : sProp 𝕄) := by
  unfold sealed shut link
  iintro ⟨#HI, ⟨HoS, HoV, HtS, HtV, Hcr⟩, Hs0, Hv0⟩
  ihave #HIk := (inv_link P κ c k) $$ HI
  icases HIk with ⟨#HIs, #HIv⟩
  imod (Rounds.cell_open ER (talk P) (g := sndCell c k) (Set.mem_univ (κ (sndCell c k)))) $$ [HoS Hs0] with ⟨HaS, #HrS⟩
  · isplitr; · iexact HIs
    isplitl [HoS] <;> iassumption
  imod (Rounds.cell_open ER (talk P) (g := rcvCell c k) (Set.mem_univ (κ (rcvCell c k)))) $$ [HoV Hv0] with ⟨HaV, #HrV⟩
  · isplitr; · iexact HIv
    isplitl [HoV] <;> iassumption
  imodintro
  isplitl [HaS HtS HaV HtV Hcr]
  · isplitl [HaS]; · iexact HaS
    isplitr; · iexact HrS
    isplitl [HtS]; · iexact HtS
    isplitl [HaV]; · iexact HaV
    isplitl [HtV] <;> iassumption
  · iexact HrV

/-- Every copy's cells, opened. -/
theorem links_open (κ : GSem nD τ sig → ℕ) (c : Dev nD) :
    iprop(invs P κ ∗ (bigSep Finset.univ fun k : Fin 6 => iprop(sealed c k ∗ shut c k)))
      ⊢ (|={Set.univ}=> (bigSep Finset.univ fun k : Fin 6 => iprop(link c k ∗ reached ER (rcvCell c k) 0)) : sProp 𝕄) :=
  (bigSep_with_persistent (fun k _ => link_open P κ c k)).trans (bigSep_fupd _ _)

end Values

/-! ## The run of the body -/

section Run

variable (x : Dev nD → S2048x1024.Idx → Elt F .bf16) (wq wo : Dev nD → S1024x1024.Idx → Elt F .bf16)
  (k v : Dev nD → S8x2048x128.Idx → Elt F .bf16)

/-- The partial product of each device. -/
def part (d : Dev nD) : S2048x1024.Idx → Elt F .f32 := partialOut (x d) (wq d) (k d) (v d) (wo d)

/-- The windows' staging buffers of device `c`, the output at `o`. -/
def staged (c : Dev nD) (o : S2048x1024.Idx → Elt F .f32) : sProp 𝕄 :=
  iprop(pt c cc0_stg0_0 (x c) ∗ pt c cc0_stg1_0 (wq c) ∗ pt c cc0_stg2_0 (k c) ∗ pt c cc0_stg3_0 (v c)
    ∗ pt c cc0_stg4_0 (wo c) ∗ pt c cc0_stg5_0 o)

/-- The buffers no window stages. -/
def scratch (c : Dev nD) : sProp 𝕄 :=
  iprop((∃ f, pt c cc0_scratch0 f) ∗ (∃ f, pt c cc0_scratch1 f) ∗ (∃ f, pt c cc0_scratch2 f))

/-- What enters the body. -/
def enter (c : Dev nD) : sProp 𝕄 :=
  iprop((∃ κ, invs (part x wq wo k v) κ) ∗ levAts L lv ∗ start c
    ∗ (bigSep Finset.univ fun i : Fin 6 => iprop(link c i ∗ reached ER (rcvCell c i) 0)))

/-- What leaves it. -/
def leave (c : Dev nD) : sProp 𝕄 := iprop(semVal (barCell c) 0 ∗ (bigSep Finset.univ fun i : Fin 6 => shut c i))

theorem body_run (c : Dev nD) (o : S2048x1024.Idx → Elt F .f32) (Q : PUnit.{1} → sProp 𝕄) :
    iprop(enter x wq wo k v c ∗ scratch c ∗ (∃ W, owes (c : Thread nD τ) (O₀ c) W) ∗ staged x wq wo k v c o
      ∗ ((leave c ∗ scratch c ∗ (∃ W, owes (c : Thread nD τ) 0 W)
          ∗ staged x wq wo k v c (finalOut (part x wq wo k v) c)) -∗ Q ⟨⟩))
    ⊢ runs c Q wholeProg := by
  unfold enter scratch staged
  rw [whole_eq]
  unfold runs
  rw [wp_deviceId]
  iintro ⟨⟨⟨%κ, #HI⟩, #Hlev, Hst, Hlinks⟩, ⟨⟨%f0, Hs0⟩, ⟨%f1, Hs1⟩, ⟨%f2, Hs2⟩⟩, HO, ⟨H0, H1, H2, H3, H4, H5⟩, Hk⟩
  unfold start
  icases Hst with ⟨HrL, HrR, HtL, HtR, Hat, Hcr⟩
  ihave Hlinks := unzip $$ Hlinks
  icases Hlinks with ⟨Hlink, Hreach⟩
  ihave Hsl := (Entails.of_eq (slots_split c f2)) $$ Hs2
  iapply (meet_run (part x wq wo k v) c κ Q _)
  isplitr; · iexact HI
  isplitr; · iexact Hlev
  isplitl [HrL HrR HtL HtR Hat Hcr HO Hsl Hreach]
  · unfold meetPre
    isplitl [HrL]; · iexact HrL
    isplitl [HrR]; · iexact HrR
    isplitl [HtL]; · iexact HtL
    isplitl [HtR]; · iexact HtR
    isplitl [Hat]; · iexact Hat
    isplitl [Hcr]; · iexact Hcr
    isplitl [HO]; · iexact HO
    iapply zip
    isplitl [Hsl]
    · iapply (slots_any c f2); iexact Hsl
    · iexact Hreach
  iintro ⟨Hb, Hlent, HO⟩
  iapply (attn_run c (w2 c) _ Q (x c) (wq c) (wo c) (k c) (v c) o f0)
  isplitl [H0]; · iexact H0
  isplitl [H1]; · iexact H1
  isplitl [H2]; · iexact H2
  isplitl [H3]; · iexact H3
  isplitl [H4]; · iexact H4
  isplitl [H5]; · iexact H5
  isplitl [Hs0]; · iexact Hs0
  iintro %a %b %f0' ⟨H0, H1, H2, H3, H4, H5, Hs0⟩
  iapply (ring_run (part x wq wo k v) c κ Q)
  isplitr; · iexact HI
  isplitr; · iexact Hlev
  isplitl [Hlink Hlent HO H5 Hs1]
  · unfold ringPre
    isplitl [Hlink]; · iexact Hlink
    isplitl [Hlent]; · iexact Hlent
    isplitl [HO]; · iexact HO
    isplitl [H5]; · unfold part; iexact H5
    iexists f1; iexact Hs1
  unfold ringPost
  iintro ⟨Hshut, HO, H5, Hs1, Hs2⟩
  iapply Hk
  unfold leave
  isplitl [Hb Hshut]
  · isplitl [Hb] <;> iassumption
  isplitl [Hs0 Hs1 Hs2]
  · isplitl [Hs0]; · iexists f0'; iexact Hs0
    isplitl [Hs1] <;> iassumption
  isplitl [HO]; · unfold owing owed; iexact HO
  isplitl [H0]; · iexact H0
  isplitl [H1]; · iexact H1
  isplitl [H2]; · iexact H2
  isplitl [H3]; · iexact H3
  isplitl [H4] <;> iassumption

end Run

end Cert.Proof

end
-- ==== Proof.Launch.lean ====
/-
  The launch of the exchange: every cell's invariant is allocated, the send and receive cells dormant, and the duties and the credit
  are dealt to the devices that use them.
-/
module

public import proofs.«01_k».proof.Proof.Whole
public import proofs.«01_k».proof.Proof.Gen.KernelIdeal.Regions

@[expose] public section

noncomputable section

namespace Cert.Proof

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The cells and the duties -/

/-- The kernel's own semaphores: the send and the receive semaphore of each copy. -/
def osem : Fin 6 × Fin 2 → SemLoc sig
  | (k, 0) => .dma (sndS k)
  | (k, 1) => .dma (rcvS k)

theorem osem_inj : Function.Injective osem := by decide

def barEmb : Dev nD ↪ GSem nD τ sig := ⟨fun c => barCell c, fun _ _ h => congrArg (fun g : GSem nD τ sig => g.1.1) h⟩
def ownEmb : Dev nD × Fin 6 × Fin 2 ↪ GSem nD τ sig :=
  ⟨fun ck => ((ck.1 : Thread nD τ), osem ck.2), fun _ _ h =>
    Prod.ext (congrArg (fun g : GSem nD τ sig => g.1.1) h) (osem_inj (congrArg Prod.snd h))⟩

def barCells : Finset (GSem nD τ sig) := Finset.univ.map barEmb
def ownCells : Finset (GSem nD τ sig) := Finset.univ.map ownEmb

theorem osem_ne_bar : ∀ k : Fin 6 × Fin 2, osem k ≠ .reg barS := by decide

theorem disjoint_cells : Disjoint barCells ownCells := by
  rw [Finset.disjoint_left]
  intro g h₁ h₂
  obtain ⟨c, -, rfl⟩ := Finset.mem_map.mp h₁
  obtain ⟨ck, -, h⟩ := Finset.mem_map.mp h₂
  exact osem_ne_bar ck.2 (congrArg Prod.snd h)

theorem over_bar (Φ : GSem nD τ sig → sProp 𝕄) : bigSep barCells Φ = bigSep Finset.univ fun c : Dev nD => Φ (barCell c) :=
  bigSep_map (s := Finset.univ) barEmb (Φ := Φ)

theorem over_own (Φ : GSem nD τ sig → sProp 𝕄) :
    bigSep ownCells Φ = bigSep Finset.univ fun c : Dev nD => bigSep Finset.univ fun k : Fin 6 => iprop(Φ (sndCell c k) ∗ Φ (rcvCell c k)) := by
  unfold ownCells
  rw [bigSep_map, bigSep_univ_prod]
  refine bigSep_congr fun c _ => ?_
  rw [bigSep_univ_prod]
  exact bigSep_congr fun k _ => BI.bigSep_fin_two fun i : Fin 2 => Φ ((c : Thread nD τ), osem (k, i))

theorem over_cells (Φ : GSem nD τ sig → sProp 𝕄) :
    bigSep (barCells ∪ ownCells) Φ
      = bigSep Finset.univ fun c : Dev nD => iprop(Φ (barCell c) ∗ bigSep Finset.univ fun k : Fin 6 => iprop(Φ (sndCell c k) ∗ Φ (rcvCell c k))) := by
  rw [bigSep_union disjoint_cells, over_bar, over_own, bigSep_sep']
  rfl

/-- Both duties of every barrier cell. -/
def barToks : Finset (GSem nD τ sig × ℕ × Fin 2) :=
  Finset.univ.map ⟨fun cd : Dev nD × Fin 2 => (barCell cd.1, 0, cd.2), fun _ _ h =>
    Prod.ext (congrArg (fun t : GSem nD τ sig × ℕ × Fin 2 => t.1.1.1) h) (congrArg (fun t : GSem nD τ sig × ℕ × Fin 2 => t.2.2) h)⟩
/-- The one duty of every send and receive cell. -/
def ownToks : Finset (GSem nD τ sig × ℕ × Fin 2) :=
  Finset.univ.map ⟨fun ck : Dev nD × Fin 6 × Fin 2 => (ownEmb ck, 0, 0), fun _ _ h =>
    ownEmb.injective (congrArg (fun t : GSem nD τ sig × ℕ × Fin 2 => t.1) h)⟩

theorem disjoint_toks : Disjoint barToks ownToks := by
  rw [Finset.disjoint_left]
  intro g h₁ h₂
  obtain ⟨cd, -, rfl⟩ := Finset.mem_map.mp h₁
  obtain ⟨ck, -, h⟩ := Finset.mem_map.mp h₂
  exact osem_ne_bar ck.2 (congrArg (fun t : GSem nD τ sig × ℕ × Fin 2 => t.1.2) h)

/-- The duty tokens that device `c` spends. -/
def spends (c : Dev nD) : sProp 𝕄 :=
  iprop((dutyTok ER (barCell (lt c)) 0 0 ∗ dutyTok ER (barCell (rt c)) 0 1)
    ∗ bigSep Finset.univ fun k : Fin 6 => iprop(dutyTok ER (sndCell c k) 0 0 ∗ dutyTok ER (rcvCell (rt c) k) 0 0))

/-- Every duty's token goes to the device that does the duty. -/
theorem toks_around :
    bigSep (barToks ∪ ownToks) (fun x => (dutyTok ER x.1 x.2.1 x.2.2 : sProp 𝕄)) = bigSep Finset.univ fun c : Dev nD => spends c := by
  have hb : bigSep barToks (fun x => (dutyTok ER x.1 x.2.1 x.2.2 : sProp 𝕄))
      = bigSep Finset.univ fun c : Dev nD => iprop(dutyTok ER (barCell c) 0 0 ∗ dutyTok ER (barCell c) 0 1) := by
    unfold barToks
    rw [bigSep_map, bigSep_univ_prod]
    exact bigSep_congr fun c _ => BI.bigSep_fin_two fun i : Fin 2 => (dutyTok ER (barCell c) 0 i : sProp 𝕄)
  have ho : bigSep ownToks (fun x => (dutyTok ER x.1 x.2.1 x.2.2 : sProp 𝕄))
      = bigSep Finset.univ fun c : Dev nD => bigSep Finset.univ fun k : Fin 6 => iprop(dutyTok ER (sndCell c k) 0 0 ∗ dutyTok ER (rcvCell c k) 0 0) := by
    have h := over_own (F := F) fun g => dutyTok ER g 0 0
    unfold ownCells at h
    rw [bigSep_map] at h
    unfold ownToks
    rw [bigSep_map]
    exact h
  have e : (fun c : Dev nD => (bigSep Finset.univ fun k : Fin 6 => iprop(dutyTok ER (sndCell c k) 0 0 ∗ dutyTok ER (rcvCell c k) 0 0) : sProp 𝕄))
      = fun c => iprop((bigSep Finset.univ fun k : Fin 6 => dutyTok ER (sndCell c k) 0 0) ∗ (bigSep Finset.univ fun k : Fin 6 => dutyTok ER (rcvCell c k) 0 0)) :=
    funext fun c => bigSep_sep' _ _ _
  rw [bigSep_union disjoint_toks, hb, ho]
  unfold spends
  simp only [bigSep_sep']
  rw [bigSep_univ_equiv ring.symm (fun c : Dev nD => (dutyTok ER (barCell c) 0 0 : sProp 𝕄)),
    bigSep_univ_equiv ring (fun c : Dev nD => (dutyTok ER (barCell c) 0 1 : sProp 𝕄)),
    bigSep_univ_equiv ring (fun c : Dev nD => (bigSep Finset.univ fun k : Fin 6 => dutyTok ER (rcvCell c k) 0 0 : sProp 𝕄))]
  rfl

/-! ## The credit -/

/-- The credit of the last `j` copies, cell by cell. -/
def credits (c : Dev nD) : ℕ → sProp 𝕄
  | 0 => iprop(emp)
  | j + 1 => iprop(credits c j ∗ cred (tallyAt (rcvCell c ⟨5 - j, by omega⟩) () N))

theorem credits_of (c : Dev nD) : ∀ j : ℕ, (Pipeline.launchCred (fun d => owed d j) c : sProp 𝕄) ⊢ credits c j
  | 0 => Entails.of_eq (Pipeline.launchCred_zero c)
  | j + 1 =>
    (Entails.of_eq (Pipeline.launchCred_add (fun d => owed d j) (fun d => tallyAt (rcvCell (rt d) ⟨5 - j, by omega⟩) () N) c)).trans
      (BI.sep_mono (credits_of c j) (Pipeline.launchCred_tallyAt (.dma (rcvS ⟨5 - j, by omega⟩ : DmaSem sig)) rt lt rt_lt lt_rt () N c))

theorem creds (c : Dev nD) : (Pipeline.launchCred O₀ c : sProp 𝕄)
    ⊢ iprop(cred (tallyAt (barCell c) () 2) ∗ bigSep Finset.univ fun k : Fin 6 => cred (tallyAt (rcvCell c k) () N)) := by
  have e : (Pipeline.launchCred O₀ c : sProp 𝕄) = iprop((Pipeline.launchCred (fun d => owed d 6) c
      ∗ Pipeline.launchCred (fun d => tallyAt (barCell (rt d)) () 1) c) ∗ Pipeline.launchCred (fun d => tallyAt (barCell (lt d)) () 1) c) := by
    rw [← Pipeline.launchCred_add, ← Pipeline.launchCred_add]
    rfl
  have hc := credits_of (F := F) c 6
  unfold credits credits credits credits credits credits credits at hc
  have h1 := Pipeline.launchCred_tallyAt (τ := τ) (Val := Elt F) (Name := ℕ) (U := UU) (Lvl := ℕ) (.reg barS) rt lt rt_lt lt_rt () 1 c
  have h2 := Pipeline.launchCred_tallyAt (τ := τ) (Val := Elt F) (Name := ℕ) (U := UU) (Lvl := ℕ) (.reg barS) lt rt lt_rt rt_lt () 1 c
  have h3 : (iprop(cred (tallyAt (barCell c) () 1) ∗ cred (tallyAt (barCell c) () 1)) : sProp 𝕄) ⊢ cred (tallyAt (barCell c) () 2) := by
    rw [← tallyAt_add (barCell c) () 1 1]
    exact (cred_add _ _).2
  rw [e, six]
  iintro ⟨⟨H, H1⟩, H2⟩
  ihave H := hc $$ H
  ihave H1 := h1 $$ H1
  ihave H2 := h2 $$ H2
  icases H with ⟨⟨⟨⟨⟨⟨-, K5⟩, K4⟩, K3⟩, K2⟩, K1⟩, K0⟩
  isplitl [H1 H2]
  · iapply h3
    isplitl [H1] <;> iassumption
  isplitl [K0]; · iexact K0
  isplitl [K1]; · iexact K1
  isplitl [K2]; · iexact K2
  isplitl [K3]; · iexact K3
  isplitl [K4]; · iexact K4
  iexact K5

/-! ## The deal -/

/-- The launch element of the exchange: the barrier cells ready, the send and receive cells dormant, every duty's token. -/
abbrev launched : sProp 𝕄 := BI.own (ER (launchOf barCells ownCells (barToks ∪ ownToks)))

/-- What device `c` needs to enter the kernel: the invariants, its part of the meeting, its sealed cells. -/
def ticket (P : Dev nD → S2048x1024.Idx → Elt F .f32) (c : Dev nD) : sProp 𝕄 :=
  iprop((∃ κ, invs P κ) ∗ start c ∗ bigSep Finset.univ fun k : Fin 6 => sealed c k)

/-- The part of the ticket that device `c` alone holds, besides the credit. -/
def hand (c : Dev nD) : sProp 𝕄 :=
  iprop(atPos ER (barCell c) 0 ∅ 0 ∗ (bigSep Finset.univ fun k : Fin 6 => iprop(openTok ER (sndCell c k) ∗ openTok ER (rcvCell c k))) ∗ spends c)

/-- The part of the ticket that every device may read. -/
def shared (P : Dev nD → S2048x1024.Idx → Elt F .f32) (κ : GSem nD τ sig → ℕ) : sProp 𝕄 :=
  iprop(invs P κ ∗ bigSep Finset.univ fun c : Dev nD => reached ER (barCell c) 0)

instance shared_persistent (P : Dev nD → S2048x1024.Idx → Elt F .f32) (κ : GSem nD τ sig → ℕ) : BI.Persistent (shared P κ) := by
  unfold shared invs; infer_instance

theorem reached_of (c : Dev nD) : (bigSep Finset.univ fun c : Dev nD => (reached ER (barCell c) 0 : sProp 𝕄)) ⊢ reached ER (barCell c) 0 :=
  bigSep_elim (Finset.mem_univ c)

theorem seal_one (c : Dev nD) (k : Fin 6) :
    iprop((openTok ER (sndCell c k) ∗ openTok ER (rcvCell c k)) ∗ (dutyTok ER (sndCell c k) 0 0 ∗ dutyTok ER (rcvCell (rt c) k) 0 0)
      ∗ cred (tallyAt (rcvCell c k) () N)) ⊢ (sealed c k : sProp 𝕄) := by
  unfold sealed
  iintro ⟨⟨H1, H2⟩, ⟨H3, H4⟩, H5⟩
  isplitl [H1]; · iexact H1
  isplitl [H2]; · iexact H2
  isplitl [H3]; · iexact H3
  isplitl [H4]; · iexact H4
  iexact H5

theorem seal_all (c : Dev nD) :
    iprop((bigSep Finset.univ fun k : Fin 6 => iprop(openTok ER (sndCell c k) ∗ openTok ER (rcvCell c k)))
      ∗ (bigSep Finset.univ fun k : Fin 6 => iprop(dutyTok ER (sndCell c k) 0 0 ∗ dutyTok ER (rcvCell (rt c) k) 0 0))
      ∗ bigSep Finset.univ fun k : Fin 6 => cred (tallyAt (rcvCell c k) () N))
    ⊢ (bigSep Finset.univ fun k : Fin 6 => sealed c k : sProp 𝕄) := by
  rw [← bigSep_sep', ← bigSep_sep']
  exact bigSep_mono fun k _ => seal_one c k

/-- The shared part, the private part and the credit make the ticket. -/
theorem ticket_of (P : Dev nD → S2048x1024.Idx → Elt F .f32) (κ : GSem nD τ sig → ℕ) (c : Dev nD) :
    iprop(shared P κ ∗ (hand c ∗ Pipeline.launchCred O₀ c)) ⊢ (ticket P c : sProp 𝕄) := by
  unfold shared hand spends ticket start
  iintro ⟨⟨#HI, #HR⟩, ⟨Ha, Ho, ⟨Ht1, Ht2⟩, Ht⟩, Hc⟩
  ihave Hc' := (creds c) $$ Hc
  icases Hc' with ⟨Hb, Hk⟩
  isplitr; · iexists κ; iexact HI
  isplitl [Ha Ht1 Ht2 Hb]
  · isplitr; · iapply (reached_of (F := F) (lt c)); iexact HR
    isplitr; · iapply (reached_of (F := F) (rt c)); iexact HR
    isplitl [Ht1]; · iexact Ht1
    isplitl [Ht2]; · iexact Ht2
    isplitl [Ha]; · iexact Ha
    iexact Hb
  iapply (seal_all c)
  isplitl [Ho]; · iexact Ho
  isplitl [Ht]; · iexact Ht
  iexact Hk

/-- At launch every device receives its ticket. -/
theorem deal (P : Dev nD → S2048x1024.Idx → Elt F .f32) :
    iprop((bigSep Finset.univ fun c : Dev nD => semVal (barCell c) 0) ∗ launched ∗ bigSep Finset.univ fun c : Dev nD => Pipeline.launchCred O₀ c)
      ⊢ (|={Set.univ}=> bigSep Finset.univ fun c : Dev nD => ticket P c : sProp 𝕄) := by
  rw [← over_bar fun g => (semVal g 0 : sProp 𝕄)]
  iintro ⟨Hv, Hu, Hc⟩
  imod (Rounds.fund_launch ER (talk P) disjoint_cells (fun g _ h => h) (barToks ∪ ownToks)) $$ [Hv Hu] with ⟨%κ, -, #Hinv, #Hr, Hat, Hopen, Htok⟩
  · isplitl [Hv] <;> iassumption
  imodintro
  ihave Hat := (Entails.of_eq (over_bar (F := F) fun g => atPos ER g 0 ∅ 0)) $$ Hat
  ihave Hopen := (Entails.of_eq (over_own (F := F) fun g => openTok ER g)) $$ Hopen
  ihave Htok := (Entails.of_eq (toks_around (F := F))) $$ Htok
  iapply (bigSep_with_persistent (R := shared P κ) (Φ := fun c => iprop(hand c ∗ Pipeline.launchCred O₀ c)) fun c _ => ticket_of P κ c)
  isplitr
  · unfold shared invs
    isplitr
    · iapply (Entails.of_eq (over_cells (F := F) fun g => cellInv ER (talk P) (κ g) g)); iexact Hinv
    · iapply (Entails.of_eq (over_bar (F := F) fun g => reached ER g 0)); iexact Hr
  iapply (zip)
  isplitr [Hc]
  · unfold hand
    iapply (zip)
    isplitl [Hat]; · iexact Hat
    iapply (zip)
    isplitl [Hopen]; · iexact Hopen
    iexact Htok
  iexact Hc

end Cert.Proof

end
-- ==== Proof.Region.lean ====
/-
  The kernel as one region of `main`: what each window's array holds before and after it, and the body's obligation, which is
  the run of the whole body.
-/
module

public import proofs.«01_k».proof.Proof.Launch
public import proofs.«01_k».proof.Proof.Gen.KernelIdeal.Points
public import Idealize.ShloMosaic.Lib.Pipeline.RegionTalk
public import Idealize.ShloMosaic.Lib.Pipeline.ValueKit

@[expose] public section

noncomputable section

namespace Cert.Proof

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ)

/-! ## The contents of the windows' arrays -/

def xIn (c : Dev nD) : S2048x1024.Idx → Elt F .bf16 := V1 m c main_v5
def wqIn (c : Dev nD) : S1024x1024.Idx → Elt F .bf16 := V1 m c main_arg1
def kIn (c : Dev nD) : S8x2048x128.Idx → Elt F .bf16 := V1 m c main_v18
def vIn (c : Dev nD) : S8x2048x128.Idx → Elt F .bf16 := V1 m c main_v19
def woIn (c : Dev nD) : S1024x1024.Idx → Elt F .bf16 := V1 m c main_arg4

/-- Each device's product with its own rows of `Wo`, before the exchange. -/
def partOf : Dev nD → S2048x1024.Idx → Elt F .f32 := part (xIn m) (wqIn m) (woIn m) (kIn m) (vIn m)

/-- What the kernel leaves in device `c`'s output. -/
@[irreducible] def res (c : Dev nD) : S2048x1024.Idx → Elt F .f32 := finalOut (partOf m) c

/-- What the region leaves in the buffers it writes. -/
def outs : Outs (F := F) := fun _ r c => Function.update (fun r : Ref sig .tc => m ((c : Thread nD τ).loc r)) main_v20 (res m c) r

theorem outs_v20 (c : Dev nD) : outs m 2 main_v20 c = res m c := Function.update_self _ _ _

/-- What enters the region's invariant on device `c`, and what leaves it. -/
abbrev enterOf (c : Dev nD) : sProp 𝕄 := enter (xIn m) (wqIn m) (woIn m) (kIn m) (vIn m) c

/-- The region: it owes the exchange before its one point, nothing after. -/
def dat0 (c : Dev nD) : Dat τ (Elt F) Unit ℕ UU ℕ cfg0 c where
  A w := V1 m c (Proc.devRef .tc (Pipeline.arrRef spec0 w))
  after w _ := match w with
    | ⟨0, _⟩ => xIn m c
    | ⟨1, _⟩ => wqIn m c
    | ⟨2, _⟩ => kIn m c
    | ⟨3, _⟩ => vIn m c
    | ⟨4, _⟩ => woIn m c
    | ⟨5, _⟩ => res m c
  Φ t := if t.val = 0 then iprop(enterOf m c ∗ scratch c ∗ ∃ r, prngReg c r) else iprop(leave c ∗ scratch c ∗ ∃ r, prngReg c r)
  q _ := fullShare
  owed t := if t.val = 0 then O₀ c else 0

def pdats : (p : Fin 1) → (c : Dev nD) → Dat τ (Elt F) Unit ℕ UU ℕ (cfgs p) c
  | 0 => dat0 m

theorem zero0 : ∀ a : Fin 2, win0_0.index t0_0 a = 0 := by decide +kernel
theorem emb0 (j : S2048x1024.Idx) : ((cfg0.win 0).blk t0_0).view.emb j = j := by
  funext a; apply Fin.ext; blk_simp; rw [zero0 a, Nat.zero_mul, Nat.zero_add]
theorem zero1 : ∀ a : Fin 2, win0_1.index t0_0 a = 0 := by decide +kernel
theorem emb1 (j : S1024x1024.Idx) : ((cfg0.win 1).blk t0_0).view.emb j = j := by
  funext a; apply Fin.ext; blk_simp; rw [zero1 a, Nat.zero_mul, Nat.zero_add]
theorem zero2 : ∀ a : Fin 3, win0_2.index t0_0 a = 0 := by decide +kernel
theorem emb2 (j : S8x2048x128.Idx) : ((cfg0.win 2).blk t0_0).view.emb j = j := by
  funext a; apply Fin.ext; blk_simp; rw [zero2 a, Nat.zero_mul, Nat.zero_add]
theorem zero3 : ∀ a : Fin 3, win0_3.index t0_0 a = 0 := by decide +kernel
theorem emb3 (j : S8x2048x128.Idx) : ((cfg0.win 3).blk t0_0).view.emb j = j := by
  funext a; apply Fin.ext; blk_simp; rw [zero3 a, Nat.zero_mul, Nat.zero_add]
theorem zero4 : ∀ a : Fin 2, win0_4.index t0_0 a = 0 := by decide +kernel
theorem emb4 (j : S1024x1024.Idx) : ((cfg0.win 4).blk t0_0).view.emb j = j := by
  funext a; apply Fin.ext; blk_simp; rw [zero4 a, Nat.zero_mul, Nat.zero_add]
theorem zero5 : ∀ a : Fin 2, win0_5.index t0_0 a = 0 := by decide +kernel
theorem emb5 (j : S2048x1024.Idx) : ((cfg0.win 5).blk t0_0).view.emb j = j := by
  funext a; apply Fin.ext; blk_simp; rw [zero5 a, Nat.zero_mul, Nat.zero_add]

theorem unfetched (c : Dev nD) (w : Fin 6) (d) (h : (cfg0.win w).fetch t0_0 = true) :
    (dat0 m c).before w t0_0 d = (dat0 m c).fetched w t0_0 d := by
  unfold Dat.before; rw [if_pos h]

theorem before0 (c : Dev nD) (d) : (dat0 m c).before 0 t0_0 d = xIn m c :=
  (unfetched m c 0 d (fetch0_0 t0_0)).trans (funext fun j => congrArg (xIn m c) (emb0 j))
theorem before1 (c : Dev nD) (d) : (dat0 m c).before 1 t0_0 d = wqIn m c :=
  (unfetched m c 1 d (fetch0_1 t0_0)).trans (funext fun j => congrArg (wqIn m c) (emb1 j))
theorem before2 (c : Dev nD) (d) : (dat0 m c).before 2 t0_0 d = kIn m c :=
  (unfetched m c 2 d (fetch0_2 t0_0)).trans (funext fun j => congrArg (kIn m c) (emb2 j))
theorem before3 (c : Dev nD) (d) : (dat0 m c).before 3 t0_0 d = vIn m c :=
  (unfetched m c 3 d (fetch0_3 t0_0)).trans (funext fun j => congrArg (vIn m c) (emb3 j))
theorem before4 (c : Dev nD) (d) : (dat0 m c).before 4 t0_0 d = woIn m c :=
  (unfetched m c 4 d (fetch0_4 t0_0)).trans (funext fun j => congrArg (woIn m c) (emb4 j))

theorem whole5 : (cfg0.win 5).WholeAt t0_0 := by decide +kernel

theorem after5 (c : Dev nD) (j : S2048x1024.Idx) : (dat0 m c).after 5 t0_0 j = res m c j := rfl

/-- The output's array after the run. -/
theorem arr5 (c : Dev nD) : (dat0 m c).arrAt 5 cfg0.N = res m c :=
  (dat0 m c).arrAt_eq_of_after_last 5 t0_0 whole5 _ (after5 m c)

theorem phi_first (c : Dev nD) : (dat0 m c).Φ t0_0.castSucc = iprop(enterOf m c ∗ scratch c ∗ ∃ r, prngReg c r) := rfl
theorem phi_last (c : Dev nD) : (dat0 m c).Φ t0_0.succ = iprop(leave c ∗ scratch c ∗ ∃ r, prngReg c r) := rfl
theorem owed_first (c : Dev nD) : (dat0 m c).owed t0_0.castSucc = O₀ c := by
  show (if (t0_0.castSucc : Fin (cfg0.N + 1)).val = 0 then O₀ c else 0) = O₀ c
  exact if_pos rfl
theorem owed_last (c : Dev nD) : (dat0 m c).owed t0_0.succ = 0 := by
  show (if (t0_0.succ : Fin (cfg0.N + 1)).val = 0 then O₀ c else 0) = 0
  exact if_neg (by decide)

theorem owes_in {c : Dev nD} (dat : Dat τ (Elt F) Unit ℕ UU ℕ cfg0 c) (t : Fin (cfg0.N + 1)) (O : CellTallies nD τ sig Unit)
    (h0 : dat.owed t = O) (hr : dat.recorded t = Set.univ) (W : Waits sig Unit) :
    (owes (c : Thread nD τ) O W : sProp 𝕄) ⊢ (dat.owesAt () t : sProp 𝕄) := by
  unfold Dat.owesAt Pipeline.owesWithin Dat.bound
  rw [h0, hr]
  iintro HO
  iexists W
  isplitr
  · ipureintro; exact fun _ _ => Or.inl trivial
  iexact HO

theorem owes_out {c : Dev nD} (dat : Dat τ (Elt F) Unit ℕ UU ℕ cfg0 c) (t : Fin (cfg0.N + 1)) (O : CellTallies nD τ sig Unit)
    (h0 : dat.owed t = O) : (dat.owesAt () t : sProp 𝕄) ⊢ iprop(∃ W, owes (c : Thread nD τ) O W) := by
  unfold Dat.owesAt Pipeline.owesWithin
  rw [h0]
  iintro ⟨%W, -, HO⟩
  iexists W
  iexact HO

omit [FloatOps F] in
/-- A whole buffer at contents `X`. -/
theorem owns_pt (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ pt c b f) := by
  unfold owns; simp only [Memref.view_whole, View.read_whole, View.set_whole]

set_option maxRecDepth 4000 in
/-- The body's obligation: `body_run` between the staged buffers. -/
theorem body_ok (c : Dev nD) : BodyObligation (dat0 m c) (defs₀ (F := F)) 𝒱₀ () Set.univ := fun t => by
  obtain rfl := fin_N0 t
  rw [bigSep_W0, bigSep_W0]
  simp only [owns_pt]
  rw [phi_first, phi_last]
  iintro ⟨⟨He, Hs, Hp⟩, HO, ⟨%d0, %f0, %h0, H0⟩, ⟨%d1, %f1, %h1, H1⟩, ⟨%d2, %f2, %h2, H2⟩, ⟨%d3, %f3, %h3, H3⟩, ⟨%d4, %f4, %h4, H4⟩, ⟨%d5, %f5, -, H5⟩⟩
  rw [before0] at h0; rw [before1] at h1; rw [before2] at h2; rw [before3] at h3; rw [before4] at h4
  subst h0 h1 h2 h3 h4
  ihave HO := (owes_out (dat0 m c) _ (O₀ c) (owed_first m c)) $$ HO
  iapply (body_run (xIn m) (wqIn m) (woIn m) (kIn m) (vIn m) c f5 _)
  isplitl [He]; · iexact He
  isplitl [Hs]; · iexact Hs
  isplitl [HO]; · iexact HO
  isplitl [H0 H1 H2 H3 H4 H5]
  · unfold staged
    isplitl [H0]; · iexact H0
    isplitl [H1]; · iexact H1
    isplitl [H2]; · iexact H2
    isplitl [H3]; · iexact H3
    isplitl [H4]; · iexact H4
    iexact H5
  unfold staged
  iintro ⟨Hl, Hs, ⟨%W, HO⟩, H0, H1, H2, H3, H4, H5⟩
  isplitl [Hl Hs Hp]
  · isplitl [Hl]; · iexact Hl
    isplitl [Hs] <;> iassumption
  isplitl [HO]; · iapply (owes_in (dat0 m c) t0_0.succ 0 (owed_last m c) rfl W); iexact HO
  isplitl [H0]
  · iexists _; isplitr; swap; (· iexact H0); ipureintro; rfl
  isplitl [H1]
  · iexists _; isplitr; swap; (· iexact H1); ipureintro; rfl
  isplitl [H2]
  · iexists _; isplitr; swap; (· iexact H2); ipureintro; rfl
  isplitl [H3]
  · iexists _; isplitr; swap; (· iexact H3); ipureintro; rfl
  isplitl [H4]
  · iexists _; isplitr; swap; (· iexact H4); ipureintro; rfl
  iexists _; isplitr; swap; (· iexact H5); ipureintro; unfold dat0; dsimp only; unfold res partOf; rfl

/-! ## The region -/

/-- The kernel's own counters are those of the six links. -/
theorem own_eq (c : Dev nD) : (Pipeline.ownSems0 osem c : sProp 𝕄) = bigSep Finset.univ fun k : Fin 6 => shut c k := by
  unfold Pipeline.ownSems0
  rw [bigSep_univ_prod]
  exact bigSep_congr fun k _ => BI.bigSep_fin_two fun i : Fin 2 => (semVal ((c : Thread nD τ), osem (k, i)) 0 : sProp 𝕄)

theorem osem_facts : Pipeline.OwnSemFacts spec0 osem := by decide

abbrev ticketOf (c : Dev nD) : sProp 𝕄 := ticket (partOf m) c

theorem open_ok (c : Dev nD) : iprop(ticketOf m c ∗ Pipeline.ownSems0 osem c ∗ levAts L lv) ⊢ (|={Set.univ}=> enterOf m c : sProp 𝕄) := by
  rw [own_eq]
  unfold ticketOf ticket enterOf enter
  iintro ⟨⟨⟨%κ, #HI⟩, Hst, Hse⟩, Hsh, #Hlev⟩
  imod (links_open (partOf m) κ c) $$ [Hse Hsh] with Hk
  · isplitr; · iexact HI
    iapply zip
    isplitl [Hse] <;> iassumption
  imodintro
  isplitr
  · iexists κ; iexact HI
  isplitr; · iexact Hlev
  isplitl [Hst] <;> iassumption

theorem rest_eq (c : Dev nD) : (Pipeline.scopedRest (Pipeline.pin (pcfgs (F := F)) adm 0).spec c : sProp 𝕄) = scratch c := by
  unfold scratch
  exact scopedRest0_eq (Val := Elt F) c

theorem in_ok (c : Dev nD) : iprop(Pipeline.scopedRest (Pipeline.pin (pcfgs (F := F)) adm 0).spec c ∗ (∃ r, prngReg c r)
      ∗ StableHlo.held (c.tc : Thread nD τ) ∅ (V1 m c) ∗ enterOf m c) ⊢ ((pdats m 0 c).Φ 0 : sProp 𝕄) := by
  rw [show (pdats m 0 c).Φ 0 = iprop(enterOf m c ∗ scratch c ∗ ∃ r, prngReg c r) from rfl, rest_eq]
  iintro ⟨Hs, Hp, -, He⟩
  isplitl [He]; · iexact He
  isplitl [Hs]; · iexact Hs
  iexact Hp

theorem out_ok (c : Dev nD) : ((pdats m 0 c).Φ (Fin.last (Pipeline.pin (pcfgs (F := F)) adm 0).N) : sProp 𝕄)
    ⊢ iprop(Pipeline.scopedRest (Pipeline.pin (pcfgs (F := F)) adm 0).spec c ∗ (∃ r, prngReg c r)
      ∗ StableHlo.held (c.tc : Thread nD τ) ∅ (V2 m (outs m) c) ∗ Pipeline.ownSems0 osem c ∗ semVal (barCell c) 0) := by
  rw [show (pdats m 0 c).Φ (Fin.last _) = iprop(leave c ∗ scratch c ∗ ∃ r, prngReg c r) from rfl, own_eq, rest_eq]
  unfold leave
  iintro ⟨⟨Hb, Hsh⟩, Hs, Hp⟩
  isplitl [Hs]; · iexact Hs
  isplitl [Hp]; · iexact Hp
  isplitr
  · unfold StableHlo.held; rw [BI.bigSep_empty]; iempintro
  isplitl [Hsh] <;> iassumption

/-- What a device owes at launch lies on cells of positive level. -/
theorem launch_pos {c : Dev nD} {g : GSem nD τ sig} {i : Unit} (h : 0 < O₀ c g i) : i ∈ L g ∧ (0 : ℕ) < lv g i := by
  have hbar : ∀ d : Dev nD, i ∈ L (barCell d) ∧ (0 : ℕ) < lv (barCell d) i := fun d =>
    ⟨by rw [L_tc]; exact Finset.mem_singleton_self _, Nat.one_pos⟩
  unfold O₀ at h
  rw [Pi.add_apply, Finsupp.add_apply, Pi.add_apply, Finsupp.add_apply] at h
  rcases Nat.add_pos_iff_pos_or_pos.mp h with h | h
  · rcases Nat.add_pos_iff_pos_or_pos.mp h with h | h
    · obtain ⟨k, -, rfl⟩ := owed_pos h
      refine ⟨by rw [L_tc]; exact Finset.mem_singleton_self _, ?_⟩
      cases i
      rw [lv_rcv]
      omega
    · obtain rfl := tally_pos h
      exact hbar _
  · obtain rfl := tally_pos h
    exact hbar _

theorem cut_ok (c : Dev nD) (t : Fin ((Pipeline.pin (pcfgs (F := F)) adm 0).N + 1)) (g : GSem nD τ sig) (i : Unit) (h : 0 < (pdats (F := F) m 0 c).owed t g i) :
    i ∈ L g ∧ (0 : ℕ) < lv g i := by
  have e : (pdats (F := F) m 0 c).owed t = if t.val = 0 then O₀ c else 0 := rfl
  rw [e] at h
  split at h
  · exact launch_pos h
  · exact absurd h (Nat.lt_irrefl 0)

abbrev arrs : Finset (DevRef τ sig) := Pipeline.arrRefs (τ := τ) spec0

theorem arrs_sub : arrs ⊆ Pipeline.ucRefs τ sig := by decide

theorem v20_mem : Proc.devRef .tc main_v20 ∈ arrs := by decide

theorem arrAt_in (c : Dev nD) : ∀ w : Fin 6, w ≠ 5 → (dat0 m c).arrAt w cfg0.N = V1 m c (Proc.devRef .tc (Pipeline.arrRef spec0 w))
  | 0, _ => (dat0 m c).arrAt_in 0 rfl _
  | 1, _ => (dat0 m c).arrAt_in 1 rfl _
  | 2, _ => (dat0 m c).arrAt_in 2 rfl _
  | 3, _ => (dat0 m c).arrAt_in 3 rfl _
  | 4, _ => (dat0 m c).arrAt_in 4 rfl _
  | 5, h => absurd rfl h

theorem v2_of_ne (c : Dev nD) {b : DevRef τ sig} (h : b ≠ Proc.devRef .tc main_v20) : V2 m (outs m) c b = V1 m c b :=
  Function.update_of_ne h _ _

theorem v2_v20 (c : Dev nD) : V2 m (outs m) c (Proc.devRef .tc main_v20) = res m c :=
  (Function.update_self _ _ _).trans (outs_v20 m c)

theorem ne_v20 : ∀ w : Fin 6, w ≠ 5 → Proc.devRef (τ := τ) .tc (Pipeline.arrRef spec0 w) ≠ Proc.devRef .tc main_v20 := by decide

theorem arr_out (c : Dev nD) (w : Fin 6) : (dat0 m c).arrAt w cfg0.N = V2 m (outs m) c (Proc.devRef .tc (Pipeline.arrRef spec0 w)) := by
  by_cases h : w = 5
  · subst h
    exact (arr5 m c).trans (v2_v20 m c).symm
  · exact (arrAt_in m c w h).trans (v2_of_ne m c (ne_v20 w h)).symm

theorem share_full (c : Dev nD) (w : Fin 6) : (pdats m 0 c).share w = fullShare := by
  unfold Dat.share; split <;> rfl

theorem stg_level : ∀ (w : Fin 6) (s : Fin (win0 w).nbuf), lvOf (.dma ((win0 w).sem s)) = 0 := by decide

set_option backward.isDefEq.respectTransparency.types false in
/-- The region of the kernel. -/
def reg0 : Pipeline.RegionSeg (pcfgs (F := F)) adm (pdats m) () defs₀ 𝒱₀ L lv 0 :=
  Pipeline.RegionSeg.ofTalk (pcfgs (F := F)) adm (pdats m) () defs₀ 𝒱₀ L lv 0 osem osem_facts
    ∅ (Pipeline.ucRefs τ sig \ arrs) (Finset.empty_subset _) launch0.toP rfl (fun c => (body_ok m c).loose)
    (fun _ => 0) O₀ (fun c => (owed_first m c).trans (zero_add _).symm) (owed_last m) (fun _ => rfl) (share_full m)
    (V1 m) (V2 m (outs m)) (fun c b hb => v2_of_ne m c fun e => by
      subst e
      exact (Finset.mem_sdiff.mp (Finset.mem_sdiff.mp hb).1).2 v20_mem)
    (ticketOf m) (fun c => semVal (barCell c) 0) (enterOf m) (fun c => semVal (barCell c) 0) (open_ok m) (in_ok m) (out_ok m)
    (fun c => by iintro H; imodintro; iexact H)
    (fun _ => 0)
    ⟨fun c w s => by rw [L_tc]; exact Finset.mem_singleton_self _, fun c w s => le_of_eq (stg_level w s), fun c t g i h => cut_ok m c t g i h⟩
    (fun _ => iprop(emp))
    (fun c w => rfl) (arr_out m)

theorem enter_reg0 (c : Dev nD) : iprop(StableHlo.held (c : Thread nD τ) (Pipeline.ucRefs τ sig) (V1 m c)
      ∗ ticketOf m c ∗ (∃ r, prngReg c r) ∗ ∃ W, owes (c : Thread nD τ) (O₀ c) W) ⊢ (reg0 m).pre c := by
  show _ ⊢ iprop(StableHlo.held (c.tc : Thread nD τ) arrs (V1 m c) ∗ (∃ r, prngReg c r)
    ∗ (StableHlo.held (c.tc : Thread nD τ) (Pipeline.ucRefs τ sig \ arrs) (V1 m c) ∗ emp) ∗ ticketOf m c ∗ ∃ Wd, owes (c : Thread nD τ) (0 + O₀ c) Wd)
  rw [StableHlo.held_sub_split (c : Thread nD τ) arrs_sub, zero_add]
  iintro ⟨⟨Ha, Hr⟩, Ht, Hp, HO⟩
  isplitl [Ha]; · iexact Ha
  isplitl [Hp]; · iexact Hp
  isplitl [Hr]
  · isplitl [Hr]; · iexact Hr
    iempintro
  isplitl [Ht] <;> iassumption

theorem leave_reg0 (c : Dev nD) : (reg0 m).post c ⊢ iprop(StableHlo.held (c : Thread nD τ) (Pipeline.ucRefs τ sig) (V2 m (outs m) c)
      ∗ semVal (barCell c) 0 ∗ ∃ W, owes (c : Thread nD τ) (0 : CellTallies nD τ sig Unit) W) := by
  show iprop(StableHlo.held (c.tc : Thread nD τ) arrs (V2 m (outs m) c) ∗ (∃ r, prngReg c r)
    ∗ (StableHlo.held (c.tc : Thread nD τ) (Pipeline.ucRefs τ sig \ arrs) (V2 m (outs m) c) ∗ emp) ∗ semVal (barCell c) 0
    ∗ ∃ Wd, owes (c : Thread nD τ) (0 : CellTallies nD τ sig Unit) Wd) ⊢ _
  rw [StableHlo.held_sub_split (c : Thread nD τ) arrs_sub]
  iintro ⟨Ha, -, ⟨Hr, -⟩, Hb, HO⟩
  isplitl [Ha Hr]
  · isplitl [Ha] <;> iassumption
  isplitl [Hb] <;> iassumption

end Cert.Proof

end
-- ==== Proof.Run.lean ====
/-
  The run of `main` on the four devices: it ends on every path, leaves the arguments as they were and every counter at zero, and
  leaves in the result the kernel's output.
-/
module

public import proofs.«01_k».proof.Proof.Region

@[expose] public section

noncomputable section

namespace Cert.Proof

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-- The launch element: the staging cells' and the exchange's. -/
def u₀ : UU :=
  (initOf (Pipeline.cells (Pipeline.pin (pcfgs (F := F)) adm) cellOf_inj) (Pipeline.launchToks (Pipeline.pin (pcfgs (F := F)) adm) cellOf_inj),
    launchOf barCells ownCells (barToks ∪ ownToks))

/-- The exchange's launch element is handed out whole, so it starts on one device. -/
def G (c : Dev nD) : sProp 𝕄 := if c = 0 then launched else iprop(emp)

theorem G_all : (bigSep Finset.univ (G (F := F)) : sProp 𝕄) = launched := by
  rw [bigSep_univ_at _ (0 : Dev nD), bigSep_congr (s := Finset.univ.erase (0 : Dev nD)) (Ψ := fun _ => (BI.emp : sProp 𝕄))
      fun c hc => by unfold G; rw [if_neg (Finset.ne_of_mem_erase hc)]; rfl, BI.bigSep_emp_const]
  unfold G; rw [if_pos rfl]
  exact BI.equiv_iff.mp sep_emp

/-- What rides beside the buffers before the kernel, and after it. -/
def rides : Fin 2 → Dev nD → sProp 𝕄
  | 0, c => iprop(ticketOf m c ∗ (∃ r, prngReg c r) ∗ ∃ W, owes (c : Thread nD τ) (O₀ c) W)
  | 1, c => iprop(semVal (barCell c) 0 ∗ ∃ W, owes (c : Thread nD τ) (0 : CellTallies nD τ sig Unit) W)

theorem counters (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

theorem unscoped_eq : ∀ sm : SemLoc sig, sm.isScoped .tc = false → sm = .reg barS := by decide

abbrev first (c : Dev nD) : sProp 𝕄 := iprop(StableHlo.held (c : Thread nD τ) (Pipeline.ucRefs τ sig) (V0 m c) ∗ rides m 0 c)
abbrev last (c : Dev nD) : sProp 𝕄 :=
  iprop(StableHlo.held (c : Thread nD τ) (Pipeline.ucRefs τ sig) (V3 m (outs m) c) ∗ semVal (barCell c) 0)

/-- What of a device's launch holdings is not the exchange's. -/
def rest (c : Dev nD) : sProp 𝕄 :=
  iprop(StableHlo.held (c : Thread nD τ) (Pipeline.ucRefs τ sig) (V0 m c) ∗ owes (c : Thread nD τ) (O₀ c) ∅ ∗ ∃ r, prngReg c r)

theorem first_of (c : Dev nD) : iprop(ticketOf m c ∗ rest m c) ⊢ (first m c : sProp 𝕄) := by
  unfold first rest rides
  iintro ⟨Ht, Hh, HO, Hp⟩
  isplitl [Hh]; · iexact Hh
  isplitl [Ht]; · iexact Ht
  isplitl [Hp]; · iexact Hp
  iexists ∅; iexact HO

theorem sort_one (c : Dev nD) : iprop(unscopedBufs c (fun b => m ((c : Thread nD τ).loc b)) ∗ unscopedSems0 c
      ∗ owes (c : Thread nD τ) (O₀ c) ∅ ∗ Pipeline.launchCred O₀ c ∗ prngReg c (ρ c) ∗ G c)
    ⊢ (iprop(rest m c ∗ (semVal (barCell c) 0 ∗ (G c ∗ Pipeline.launchCred O₀ c))) : sProp 𝕄) := by
  rw [show (unscopedBufs c (fun b => m ((c : Thread nD τ).loc b)) : sProp 𝕄)
      = StableHlo.held (c : Thread nD τ) (Pipeline.ucRefs τ sig) (V0 m c) from Pipeline.unscopedBufs_held c (V0 m c), counters]
  unfold rest
  iintro ⟨Hh, Hb, HO, Hc, Hp, HG⟩
  isplitl [Hh HO Hp]
  · isplitl [Hh]; · iexact Hh
    isplitl [HO]; · iexact HO
    iexists (ρ c); iexact Hp
  isplitl [Hb]; · iexact Hb
  isplitl [HG] <;> iassumption

/-- At launch every device gets its buffers, its ticket and what it owes. -/
theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (first m) : sProp 𝕄) := by
  have hs : (bigSep Finset.univ fun c : Dev nD => iprop(unscopedBufs c (fun b => m ((c : Thread nD τ).loc b)) ∗ unscopedSems0 c
        ∗ owes (c : Thread nD τ) (O₀ c) ∅ ∗ Pipeline.launchCred O₀ c ∗ prngReg c (ρ c) ∗ G c) : sProp 𝕄)
      ⊢ bigSep Finset.univ fun c : Dev nD => iprop(rest m c ∗ (semVal (barCell c) 0 ∗ (G c ∗ Pipeline.launchCred O₀ c))) :=
    bigSep_mono fun c _ => sort_one m ρ c
  have hf : (bigSep Finset.univ fun c : Dev nD => iprop(ticketOf m c ∗ rest m c) : sProp 𝕄) ⊢ bigSep Finset.univ (first m) :=
    bigSep_mono fun c _ => first_of m c
  iintro ⟨H, -⟩
  ihave H := hs $$ H
  ihave H := unzip $$ H; icases H with ⟨Hr, H⟩
  ihave H := unzip $$ H; icases H with ⟨Hb, H⟩
  ihave H := unzip $$ H; icases H with ⟨HG, Hc⟩
  ihave Hu := (Entails.of_eq (G_all (F := F))) $$ HG
  imod (deal (partOf m)) $$ [Hb Hu Hc] with Ht
  · isplitl [Hb]; · iexact Hb
    isplitl [Hu] <;> iassumption
  imodintro
  iapply hf
  iapply zip
  isplitl [Ht] <;> iassumption

/-- What device `c`'s memory holds at the end. -/
def Ends (c : Dev nD) (s : MemSt nD τ sig (Elt F)) : Prop :=
  s.mem ((c.tc : Thread nD τ).loc main_arg0) = m ((c.tc : Thread nD τ).loc main_arg0)
  ∧ s.mem ((c.tc : Thread nD τ).loc main_arg1) = m ((c.tc : Thread nD τ).loc main_arg1)
  ∧ s.mem ((c.tc : Thread nD τ).loc main_arg2) = m ((c.tc : Thread nD τ).loc main_arg2)
  ∧ s.mem ((c.tc : Thread nD τ).loc main_arg3) = m ((c.tc : Thread nD τ).loc main_arg3)
  ∧ s.mem ((c.tc : Thread nD τ).loc main_arg4) = m ((c.tc : Thread nD τ).loc main_arg4)
  ∧ s.mem ((c.tc : Thread nD τ).loc main_v21) = V3 m (outs m) c main_v21

theorem uc_mem (r : Ref sig .tc) (h : ¬ (Proc.devRef (τ := τ) .tc r).isScoped) : Proc.devRef .tc r ∈ Pipeline.ucRefs τ sig :=
  Finset.mem_filter.mpr ⟨StableHlo.devRef_mem_tcRefs r, h⟩

set_option backward.isDefEq.respectTransparency.types false in
theorem run_main : θ_run defs (onTc (τ := τ) (main (F := F))) ⟨m, fun _ => 0, ρ⟩
    (fun r => (∀ c : Dev nD, Ends m c r.2) ∧ r.2.sem = fun _ => 0) := by
  refine Pipeline.θ_run_regions_kit_dev_sems (pcfgs (F := F)) adm (pdats m) () cellOf_inj EP defs₀ 𝒱₀ L lv m ρ main
    (segs m (outs m) 𝒱₀ L lv (rides m) () (pdats m) (reg0 m))
    (fun c Q => by
      rewrite [main_chain c, Pipeline.Seg.run_eq_chain,
        show (segs m (outs m) 𝒱₀ L lv (rides m) () (pdats m) (reg0 m) c).map Pipeline.Seg.prog = [
          StableHlo.seq (hostOps0 c),
          Prog.lift (.customCall (Pipeline.entry 0) ()),
          StableHlo.seq hostOps1 ] from rfl]
      dsimp (config := { failIfUnchanged := false }) only
      exact .rfl)
    (fun c => by simp only [segs, Pipeline.Seg.pipes_host, Pipeline.Seg.pipes_region, Pipeline.Seg.pipes_nil]; decide)
    O₀ L_of_ne G (u₀ (F := F)) ?_ (T₀ := first m) (Tₙ := last m)
    (hch := fun c => ⟨.rfl, enter_reg0 m c, leave_reg0 m c, ?_⟩)
    (hinit := init m ρ) (QY := fun c s => Ends m c s ∧ s.sem (barCell c) = 0)
    (hfin := fun c s' => ?_) (hQ := fun s h hs => ⟨fun c => (h c).1, ?_⟩)
  · unfold u₀
    iintro Hu
    ihave H := (ownU_pair _ _) $$ Hu
    icases H with ⟨HP, HX⟩
    imodintro
    isplitl [HP]; · iexact HP
    rw [G_all]; iexact HX
  · show iprop(StableHlo.held (c : Thread nD τ) (Pipeline.ucRefs τ sig) (V3 m (outs m) c) ∗ rides m 1 c)
      ⊢ iprop(last m c ∗ ∃ W, owes (c : Thread nD τ) (0 : CellTallies nD τ sig Unit) W)
    unfold rides last
    iintro ⟨Hh, Hb, HO⟩
    isplitr [HO]
    · isplitl [Hh] <;> iassumption
    iexact HO
  · unfold last StableHlo.held
    iintro ⟨⟨Hh, Hb⟩, HSI⟩
    icombine HSI Hb gives %hb
    ihave Hr := (pointsTo_read_all (Pipeline.ucRefs τ sig) (fun b => ((c : Thread nD τ).1, b)) (V3 m (outs m) c) s') $$ [Hh HSI]
    · isplitl [Hh] <;> iassumption
    icases Hr with ⟨%h, HSI⟩
    imodintro
    isplitr
    · ipureintro
      exact ⟨⟨(h (Proc.devRef .tc main_arg0) (uc_mem _ (by decide))).trans (V3_main_arg0 m (outs m) c),
        (h (Proc.devRef .tc main_arg1) (uc_mem _ (by decide))).trans (V3_main_arg1 m (outs m) c),
        (h (Proc.devRef .tc main_arg2) (uc_mem _ (by decide))).trans (V3_main_arg2 m (outs m) c),
        (h (Proc.devRef .tc main_arg3) (uc_mem _ (by decide))).trans (V3_main_arg3 m (outs m) c),
        (h (Proc.devRef .tc main_arg4) (uc_mem _ (by decide))).trans (V3_main_arg4 m (outs m) c),
        h (Proc.devRef .tc main_v21) (uc_mem _ (by decide))⟩, by simpa using hb⟩
    iexact HSI
  · exact sem_eq_zero hs fun c sm hsm => by
      obtain rfl := unscoped_eq sm hsm
      exact (h c).2

/-- The frame alone: the arguments stay as they were and every counter ends at zero. -/
theorem kept_main : θ_run defs (onTc (τ := τ) (main (F := F))) ⟨m, fun _ => 0, ρ⟩
    (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c =>
    ⟨(h.1 c).1, (h.1 c).2.1, (h.1 c).2.2.1, (h.1 c).2.2.2.1, (h.1 c).2.2.2.2.1⟩, h.2⟩) (run_main m ρ)

end Cert.Proof

end
-- ==== Proof.Attend.lean ====
/-
  One row of attention over the extended reals, with the softmax as both programs compute it: the row's greatest score
  is subtracted before the exponentials, and each exponential is divided by their sum.
-/
module

public import Idealize.ShloMosaic.PureOps.Ideal
public import Idealize.ShloMosaic.Lib.Pointwise

@[expose] public section

noncomputable section

namespace Cert.Attend

open Idealize.ShloMosaic

/-- The scale of the scores. -/
def scale : EReal := Ideal.ofBits .f32 0x3DB504F3#32

/-- The score of a key that the mask leaves out. -/
def low : EReal := Ideal.ofBits .f32 0xCE6E6B28#32

variable {n : ℕ}

/-- The greatest score. -/
def peak (g : Fin n → EReal) : EReal := (Finset.univ : Finset (Fin n)).fold max (Ideal.ofBits .f32 0xFF800000#32) g

/-- The exponential of a score, the greatest subtracted. -/
def expo (g : Fin n → EReal) (j : Fin n) : EReal := Ideal.exp (g j - peak g)

/-- The weight of a key. -/
def weight (g : Fin n → EReal) (j : Fin n) : EReal := Ideal.div (expo g j) (∑ i, expo g i)

/-- The row's context: the values under those weights. -/
def attend (g v : Fin n → EReal) : EReal := ∑ j, weight g j * v j

/-! ## Scores -/

theorem scale_nonneg : ∃ r : ℝ, 0 ≤ r ∧ scale = (r : EReal) := by
  refine ⟨(2 ^ 23 + 3474675 : ℕ) * (2 : ℝ) ^ (-27 : ℤ), by positivity, ?_⟩
  simp [scale, Ideal.ofBits, Ideal.ieee]

/-- The scale comes out of a sum. -/
theorem sum_scale {ι : Type} (s : Finset ι) (f : ι → EReal) : ∑ i ∈ s, f i * scale = (∑ i ∈ s, f i) * scale := by
  classical
  obtain ⟨r, hr, he⟩ := scale_nonneg
  rw [he]
  induction s using Finset.induction_on with
  | empty => simp
  | insert a s ha ih =>
    rw [Finset.sum_insert ha, Finset.sum_insert ha, ih,
      EReal.right_distrib_of_nonneg_of_ne_top (EReal.coe_nonneg.mpr hr) (EReal.coe_ne_top r)]

/-- Whether query `a` attends to key `b`: the two are in one block of 64, or the key is in the first block, or the
block numbers' sum is a multiple of three. -/
def keeps (a b : ℕ) : BitVec 1 :=
  BitVec.ofBool (decide (a / 64 = b / 64 ∨ b / 64 = 0 ∨ (a / 64 + b / 64) % 3 = 0))

variable (X : Fin 2048 → Fin 1024 → EReal) (W : Fin 1024 → Fin 128 → EReal) (K V : Fin 2048 → Fin 128 → EReal)

/-- Query `r`'s score of key `j`, scaled. -/
def score (r j : Fin 2048) : EReal := (∑ e, (∑ i, X r i * W i e) * K j e) * scale

/-- The same with the query scaled before the product. -/
theorem score_eq (r j : Fin 2048) : score X W K r j = ∑ e, (∑ i, X r i * W i e) * scale * K j e := by
  unfold score
  rw [← sum_scale]
  exact Finset.sum_congr rfl fun e _ => mul_right_comm ..

/-- One head's context: query `r`'s weights over the keys, applied to coordinate `d` of the values. -/
def context (r : Fin 2048) (d : Fin 128) : EReal :=
  attend (fun j => Scalar.select (keeps r j) (score X W K r j) low) fun j => V j d

end Cert.Attend

end
-- ==== Proof.KernelValue.lean ====
/-
  The kernel's partial product read over the extended reals: each device's rows are its eight heads' contexts times its
  rows of `Wo`.
-/
module

public import proofs.«01_k».proof.Proof.Attn
public import proofs.«01_k».proof.Proof.Attend

@[expose] public section

noncomputable section

namespace Cert.Proof

open Cert.KernelIdeal Cert.KernelIdeal.Gen
open Idealize.ShloMosaic
open Cert.Attend

/-! ## The mask -/

/-- A position over 64, rounded down, as the kernel computes it on words. -/
def blkW (w : BitVec 32) : BitVec 32 :=
  Scalar.select
    (IntOp.andi
      (IntOp.cmpi .ne
        (IntOp.subi (BitVec.setWidth 32 (IntOp.cmpi .sgt w 0#32)) (BitVec.setWidth 32 (IntOp.cmpi .slt w 0#32)))
        (Scalar.subi (Scalar.extui (Scalar.cmpi .sgt 64#32 0#32)) (Scalar.extui (Scalar.cmpi .slt 64#32 0#32))))
      (IntOp.cmpi .ne (IntOp.remsi .vector w 64#32) 0#32))
    (IntOp.subi (IntOp.divsi .vector w 64#32) 1#32) (IntOp.divsi .vector w 64#32)

theorem blkW_ofNat : ∀ n : Fin 2048, blkW (BitVec.ofNat 32 n) = BitVec.ofNat 32 (n / 64) := by decide +kernel

/-- The mask of two block numbers, as the kernel computes it on words. -/
def keepW (a b : BitVec 32) : BitVec 1 :=
  have one := Scalar.select (Scalar.cmpi .eq 3#32 0#32) 1#32 3#32
  have rem := IntOp.remsi .vector (IntOp.addi a b) one
  IntOp.ori (IntOp.ori (IntOp.cmpi .eq a b) (IntOp.cmpi .eq b 0#32))
    (IntOp.cmpi .eq (Scalar.select
      (IntOp.andi (IntOp.xori (IntOp.cmpi .slt rem 0#32) (Scalar.cmpi .slt one 0#32)) (IntOp.cmpi .ne rem 0#32))
      (IntOp.addi rem one) rem) 0#32)

theorem keepW_ofNat : ∀ a b : Fin 32, keepW (BitVec.ofNat 32 a) (BitVec.ofNat 32 b)
    = BitVec.ofBool (decide (a.val = b.val ∨ b.val = 0 ∨ (a.val + b.val) % 3 = 0)) := by decide +kernel

theorem mask_words (t : ℕ) (r : Fin 512) (j : Fin 2048) :
    mask t (ix2 r j) = keepW (blkW (IntOp.addi (BitVec.ofNat 32 r) (BitVec.ofNat 32 (512 * t)))) (blkW (BitVec.ofNat 32 j)) := by
  pointwise [mask, qblk, k0_pay6, k0_pay3, k0_pay4, k0_pay5]
  rfl

/-- The mask of tile `t`, row by row. -/
theorem mask_apply (t : ℕ) (ht : t < 4) (r : Fin 512) (j : Fin 2048) : mask t (ix2 r j) = keeps (512 * t + r) j := by
  have hr := r.isLt
  have hj := j.isLt
  have h0 : IntOp.addi (BitVec.ofNat 32 r) (BitVec.ofNat 32 (512 * t)) = BitVec.ofNat 32 (512 * t + r) :=
    (BitVec.ofNat_add ..).symm.trans (congrArg _ (Nat.add_comm ..))
  rw [mask_words, h0, blkW_ofNat ⟨512 * t + r, by omega⟩, blkW_ofNat j]
  exact keepW_ofNat ⟨(512 * t + r) / 64, by omega⟩ ⟨j / 64, by omega⟩

/-! ## The product -/

variable (x : S2048x1024.Idx → Elt Ideal .bf16) (wq : S1024x1024.Idx → Elt Ideal .bf16) (k v : S8x2048x128.Idx → Elt Ideal .bf16)
  (wo : S1024x1024.Idx → Elt Ideal .bf16)

/-- Head `h`'s context on the device. -/
def headCtx (h : ℕ) (hh : h < 8) : Fin 2048 → Fin 128 → EReal :=
  context (fun r i => x (ix2 r i)) (fun i e => wq (ix2 i ⟨128 * h + e, by omega⟩))
    (fun j e => k (ix3 ⟨h, hh⟩ j e)) (fun j e => v (ix3 ⟨h, hh⟩ j e))

theorem head_apply (t : ℕ) (ht : t < 4) (h : ℕ) (hh : h < 8) (r : Fin 512) (d : Fin 128) :
    head x wq k v t ht h hh (ix2 r d) = headCtx x wq k v h hh ⟨512 * t + r, by omega⟩ d := by
  unfold headCtx context
  simp only [score_eq]
  pointwise [head, k0_pay7, k0_pay12]
  simp only [mask_apply t ht]
  rfl

theorem at2_eq {m n : ℕ} (r q : ℕ) (hr : r < m) (hq : q < n) : at2 r q hr hq = ix2 ⟨r, hr⟩ ⟨q, hq⟩ := by
  funext a
  match a with
  | ⟨0, _⟩ => rfl
  | ⟨1, _⟩ => rfl

theorem ctxT_apply (t : ℕ) (ht : t < 4) (r : Fin 512) (p : Fin 1024) :
    ctxT x wq k v t ht (ix2 r p)
      = headCtx x wq k v (p / 128) (by omega) ⟨512 * t + r, by omega⟩ ⟨p % 128, Nat.mod_lt _ (by decide)⟩ := by
  have hp : p.val / 128 < 8 := by omega
  exact (congrArg (head x wq k v t ht (p.val / 128) hp) (at2_eq r.val (p.val % 128) r.isLt (Nat.mod_lt _ (by decide)))).trans
    (head_apply x wq k v t ht (p / 128) hp r ⟨p % 128, Nat.mod_lt _ (by decide)⟩)

theorem tileOut_apply (t : ℕ) (ht : t < 4) (r : Fin 512) (q : Fin 1024) :
    tileOut x wq k v wo t ht (ix2 r q) = ∑ p : Fin 1024, headCtx x wq k v (p / 128) (by omega) ⟨512 * t + r, by omega⟩
      ⟨p % 128, Nat.mod_lt _ (by decide)⟩ * wo (ix2 p q) := by
  pointwise [tileOut, k0_pay21]
  simp only [ctxT_apply]

/-- The device's partial product at row `r`, column `q`. -/
theorem partialOut_apply (r : Fin 2048) (q : Fin 1024) :
    partialOut x wq k v wo (ix2 r q) = ∑ p : Fin 1024, headCtx x wq k v (p / 128) (by omega) r
      ⟨p % 128, Nat.mod_lt _ (by decide)⟩ * wo (ix2 p q) := by
  have hr := r.isLt
  have ht : r.val / 512 < 4 := by omega
  have h2 : (⟨512 * (r.val / 512) + r.val % 512, by omega⟩ : Fin 2048) = r := Fin.ext (by dsimp only; omega)
  refine (congrArg (tileOut x wq k v wo (r.val / 512) ht) (at2_eq (r.val % 512) q.val (Nat.mod_lt _ (by decide)) q.isLt)).trans ?_
  rw [tileOut_apply]
  simp only [h2]

end Cert.Proof

end
-- ==== Proof.Sum.lean ====
/-
  Over the extended reals the ring leaves every device with the sum of the four partial products.
-/
module

public import proofs.«01_k».proof.Proof.Body
public import proofs.«01_k».proof.Proof.KernelValue

@[expose] public section

noncomputable section

namespace Cert.Proof

open Cert.KernelIdeal Cert.KernelIdeal.Gen
open Idealize.ShloMosaic
open Idealize.ShloMosaic.TcCoe

/-- Blocks are equal when they agree at every row and column. -/
theorem ext2 {α : Type} {f g : S512x1024.Idx → α} (h : ∀ r q, f (ix2 r q) = g (ix2 r q)) : f = g := funext fun i => by
  have e : i = ix2 (i (0 : Fin 2)) (i (1 : Fin 2)) := funext fun a => match a with
    | ⟨0, _⟩ => rfl
    | ⟨1, _⟩ => rfl
  rw [e]
  exact h _ _

theorem tr_ideal (a : FVec Ideal S512x1024 .f32) : tr (F := Ideal) a = a := ext2 fun r q => by
  pointwise [tr, k0_pay91]

theorem up3_apply (w : FVec Ideal S512x1024 .bf16) (r : Fin 512) (q : Fin 1024) : up3 (F := Ideal) w (ix3 0 r q) = w (ix2 r q) :=
  congrArg w (at2_eq r.val q.val r.isLt q.isLt)

theorem add3_apply (a : FVec Ideal S512x1024 .f32) (w : FVec Ideal S512x1024 .bf16) (r : Fin 512) (q : Fin 1024) :
    add3 (F := Ideal) a w (ix2 r q) = a (ix2 r q) + w (ix2 r q) := by
  rw [← up3_apply w]
  unfold add3
  generalize up3 (F := Ideal) w = z
  pointwise [k0_pay98]

theorem ex_apply (w : FVec Ideal S512x1024 .bf16) (r : Fin 512) (q : Fin 1024) : ex (F := Ideal) w (ix2 r q) = w (ix2 r q) := by
  rw [← up3_apply w]
  unfold ex
  generalize up3 (F := Ideal) w = z
  pointwise [k0_pay100]

variable (P : Dev nD → S2048x1024.Idx → Elt Ideal .f32)

/-- The sum of the four partial products. -/
def total : S2048x1024.Idx → Elt Ideal .f32 := fun i => (∑ e, P e i : EReal)

theorem ring4 (c : Dev nD) (g : Dev nD → EReal) : g c + (g (lt c) + (g (lt (lt c)) + g (lt (lt (lt c))))) = ∑ e, g e := by
  have h4 : ∑ e, g e = g 0 + g 1 + g 2 + g 3 := Fin.sum_univ_four g
  rw [h4]
  match c with
  | 0 => show g 0 + (g 3 + (g 2 + g 1)) = _; abel
  | 1 => show g 1 + (g 0 + (g 3 + g 2)) = _; abel
  | 2 => show g 2 + (g 1 + (g 0 + g 3)) = _; abel
  | 3 => show g 3 + (g 2 + (g 1 + g 0)) = _; abel

theorem ck_lt (n : ℕ) (c : Dev nD) : ck n (lt c) = ck (n + 1) c := by
  induction n with
  | zero => rfl
  | succ n ih => exact congrArg lt ih

/-- After three copies a device has the whole sum of its chunk. -/
theorem acc_total (c : Dev nD) : acc P 3 c = rd (ck 3 c) (total P) := by
  refine ext2 fun r q => ?_
  show add3 (rd (ck 3 c) (P c)) (tr (add3 (rd (ck 2 (lt c)) (P (lt c))) (tr (add3 (rd (ck 1 (lt (lt c))) (P (lt (lt c))))
    (tr (rd (ck 0 (lt (lt (lt c)))) (P (lt (lt (lt c)))))))))) (ix2 r q) = _
  rw [tr_ideal, tr_ideal, tr_ideal, add3_apply, add3_apply, add3_apply]
  simp only [ck_lt]
  exact ring4 c fun e => rd (F := Ideal) (ck 3 c) (P e) (ix2 r q)

/-- A finished chunk, widened on arrival. -/
theorem ex_sv (c : Dev nD) : ex (tr (acc P 3 c)) = rd (ck 3 c) (total P) := by
  rw [acc_total]
  exact ext2 fun r q => (ex_apply _ r q).trans (congrFun (tr_ideal _) _)

theorem row_back {a q : ℕ} (h : a / 512 = q) : 512 * q + 1 * (a % 512) = a := by omega
theorem col_back (a : ℕ) : 0 + 1 * a = a := by omega

theorem chunk_emb (q : Dev nD) (i : S2048x1024.Idx) (h : chunkOf i = q.val) : ∃ j, (chunkR q).emb j = i :=
  ⟨(ix2 ⟨(i (0 : Fin 2)).val % 512, Nat.mod_lt _ (by decide)⟩ (i (1 : Fin 2)) : S512x1024.Idx), funext fun a => match a with
    | ⟨0, _⟩ => Fin.ext (row_back (a := (i (0 : Fin 2)).val) h)
    | ⟨1, _⟩ => Fin.ext (col_back (i (1 : Fin 2)).val)⟩

/-- Buffers that agree over a chunk agree at each place of it. -/
theorem rd_at (q : Dev nD) (f g : S2048x1024.Idx → Elt Ideal .f32) (i : S2048x1024.Idx) (hc : chunkOf i = q.val)
    (h : rd q f = rd q g) : f i = g i := by
  obtain ⟨j, hj⟩ := chunk_emb q i hc
  rw [← hj]
  exact congrFun h j

theorem wr_total (q : Dev nD) (T f : S2048x1024.Idx → Elt Ideal .f32) (i : S2048x1024.Idx) (h : f i = T i ∨ chunkOf i = q.val) :
    wr (F := Ideal) q (rd q T) f i = T i := by
  by_cases hc : chunkOf i = q.val
  · exact rd_at q _ T i hc (rd_wr q _ f)
  · rw [wr_of_ne q _ f i hc]
    exact h.resolve_right hc

/-- Some chunk a device has a hand in holds a given row. -/
theorem chunk_some : ∀ (c : Dev nD) (n : Fin 4), n.val = (ck 0 c).val ∨ n.val = (ck 1 c).val ∨ n.val = (ck 2 c).val ∨ n.val = (ck 3 c).val := by
  decide

theorem ck_back : ∀ c : Dev nD, ck 3 (lt c) = ck 0 c ∧ ck 3 (lt (lt c)) = ck 1 c ∧ ck 3 (lt (lt (lt c))) = ck 2 c := by decide

theorem finalOut_total (c : Dev nD) : finalOut (F := Ideal) P c = total P := by
  have e5 : ex (sv P 5 (lt c)) = rd (ck 2 c) (total P) := (ex_sv P (lt (lt (lt c)))).trans (congrArg (fun n => rd (F := Ideal) n (total P)) (ck_back c).2.2)
  have e4 : ex (sv P 4 (lt c)) = rd (ck 1 c) (total P) := (ex_sv P (lt (lt c))).trans (congrArg (fun n => rd (F := Ideal) n (total P)) (ck_back c).2.1)
  have e3 : ex (sv P 3 (lt c)) = rd (ck 0 c) (total P) := (ex_sv P (lt c)).trans (congrArg (fun n => rd (F := Ideal) n (total P)) (ck_back c).1)
  unfold finalOut sumOut
  rw [e5, e4, e3, acc_total]
  funext i
  have hi : chunkOf i < 4 := Nat.div_lt_of_lt_mul (i (0 : Fin 2)).isLt
  rcases chunk_some c ⟨chunkOf i, hi⟩ with h | h | h | h
  · exact wr_total _ _ _ i (.inl (wr_total _ _ _ i (.inl (wr_total _ _ _ i (.inr h)))))
  · exact wr_total _ _ _ i (.inl (wr_total _ _ _ i (.inr h)))
  · exact wr_total _ _ _ i (.inr h)
  · exact wr_total _ _ _ i (.inl (wr_total _ _ _ i (.inl (wr_total _ _ _ i (.inl (wr_total _ _ _ i (.inr h)))))))

end Cert.Proof
end
-- ==== Proof.Reads.lean ====
/-
  What the region's operands hold on entry, in terms of the arguments, and what the result holds at the end.
-/
module

public import proofs.«01_k».proof.Proof.Run
public import proofs.«01_k».proof.Proof.Sum
public import Idealize.ShloMosaic.Lib.StableHlo.ReadAt
public import Idealize.ShloMosaic.Lib.DynamicIndex
public import Idealize.ShloMosaic.Lib.Layout
public import Idealize.ShloMosaic.Lib.Tactic.WordOmega

@[expose] public section

noncomputable section

namespace Cert.Proof

open Cert.KernelIdeal Cert.KernelIdeal.Gen
open Idealize.ShloMosaic
open Idealize.ShloMosaic.TcCoe

variable (m : (ℓ : Loc nD τ sig) → Buf (Elt Ideal) ℓ) (c : Dev nD)

theorem xIn_apply (r : Fin 2048) (i : Fin 1024) :
    xIn m c (ix2 r i) = m ((c : Thread nD τ).loc main_arg0) (ix3 0 r i) := by
  unfold xIn V1
  after_reads_at

theorem starts_fit : ∀ c : Dev nD, S2048x32x128.Slices ![0, 8 * c.val, 0] S2048x8x128 := by decide

/-- The heads of device `c`, cut from all heads. -/
theorem heads_apply (x : S2048x32x128.Idx → Elt Ideal .bf16) (start : Fin 3 → Int) (h0 : start 0 = 0) (h1 : start 1 = (8 * c.val : ℕ))
    (h2 : start 2 = 0) (h : Fin 8) (j : Fin 2048) (e : Fin 128) :
    transpose S8x2048x128 [1, 0, 2] (Host.dynamicSlice S2048x8x128 x start sliceFits_S2048x32x128_S2048x8x128)
      transposes_S2048x8x128_S8x2048x128_1_0_2 (ix3 h j e)
      = x (ix3 j ⟨8 * c.val + h, by have : c.val < 4 := c.isLt; omega⟩ e) := by
  rw [Host.dynamicSlice_eq_extractStridedSlice S2048x8x128 x start ![0, 8 * c.val, 0] sliceFits_S2048x32x128_S2048x8x128 (starts_fit c)
    (fun a => match a with
      | ⟨0, _⟩ => h0
      | ⟨1, _⟩ => h1
      | ⟨2, _⟩ => h2)]
  pointwise

/-- The first of device `c`'s heads, as the program computes it on words. -/
theorem start_word : ∀ c : Dev nD,
    (Scalar.select (IntOp.cmpi .slt (IntOp.muli (IntOp.remui .host (IntOp.divui .host (Dev.word c) 1#32) 4#32) 8#32) 0#32)
      (IntOp.addi (IntOp.muli (IntOp.remui .host (IntOp.divui .host (Dev.word c) 1#32) 4#32) 8#32) 32#32)
      (IntOp.muli (IntOp.remui .host (IntOp.divui .host (Dev.word c) 1#32) 4#32) 8#32)).toInt = (8 * c.val : ℕ) := by decide

theorem kIn_apply (h : Fin 8) (j : Fin 2048) (e : Fin 128) :
    kIn m c (ix3 h j e) = m ((c : Thread nD τ).loc main_arg2) (ix4 0 j ⟨8 * c.val + h, by have : c.val < 4 := c.isLt; omega⟩ e) := by
  unfold kIn V1
  after_reads_simp
  refine (heads_apply c _ _ ?_ ?_ ?_ h j e).trans ?_
  · dsimp only [Matrix.cons_val_zero]
    after_reads_simp
    rfl
  · dsimp only [Matrix.cons_val_one, Matrix.cons_val_zero]
    after_reads_simp
    exact start_word c
  · dsimp only [Matrix.cons_val]
    after_reads_simp
    rfl
  · clean_types
    pointwise

theorem vIn_apply (h : Fin 8) (j : Fin 2048) (e : Fin 128) :
    vIn m c (ix3 h j e) = m ((c : Thread nD τ).loc main_arg3) (ix4 0 j ⟨8 * c.val + h, by have : c.val < 4 := c.isLt; omega⟩ e) := by
  unfold vIn V1
  after_reads_simp
  refine (heads_apply c _ _ ?_ ?_ ?_ h j e).trans ?_
  · dsimp only [Matrix.cons_val_zero]
    after_reads_simp
    rfl
  · dsimp only [Matrix.cons_val_one, Matrix.cons_val_zero]
    after_reads_simp
    exact start_word c
  · dsimp only [Matrix.cons_val]
    after_reads_simp
    rfl
  · clean_types
    pointwise

theorem wqIn_eq : wqIn m c = m ((c : Thread nD τ).loc main_arg1) := (V1_of m c main_arg1 (by decide)).trans rfl
theorem woIn_eq : woIn m c = m ((c : Thread nD τ).loc main_arg4) := (V1_of m c main_arg4 (by decide)).trans rfl

/-- The result: the sum of the partial products. -/
theorem result_apply (r : Fin 2048) (q : Fin 1024) :
    V3 m (outs m) c main_v21 (ix3 0 r q) = (∑ e, partOf m e (ix2 r q) : EReal) := by
  have h : res m c = total (partOf m) := by
    unfold res
    exact finalOut_total (partOf m) c
  refine Eq.trans (b := res m c (ix2 r q)) ?_ (congrFun h _)
  rw [← v2_v20 m c]
  unfold V3
  generalize V2 m (outs m) c = W
  after_reads_at

end Cert.Proof
end
-- ==== Proof.RefValue.lean ====
/-
  The reference's value: its operations in named steps, then each step read at an index over the extended reals, down to
  `out_apply`, which gives the output as a sum over the heads' contexts.
-/
module

public import proofs.«01_k».proof.Proof.Gen.ReferenceIdeal.Run
public import proofs.«01_k».proof.Proof.Attend
public import Idealize.ShloMosaic.Lib.Routing.OpsOrder

@[expose] public section

noncomputable section

namespace Cert.Proof

open Cert.ReferenceIdeal Cert.ReferenceIdeal.Gen
open Idealize.ShloMosaic
open Idealize.ShloMosaic.TcCoe
open Cert.Attend

namespace Ref

/-! ## The reference's value in named steps -/

/-- The block number of each position. -/
def blk : IVec S2048 32 :=
  have pos := iotaInDim S2048 32 0
  have size := constantI S_ 32 64#32
  have quo := Host.divsi pos (broadcastInDim S2048 ![] bcast_S_S2048 (id size))
  select (andi (cmpi .ne (signi pos) (broadcastInDim S2048 ![] bcast_S_S2048 (signi (id size))))
      (cmpi .ne (Host.remsi pos (broadcastInDim S2048 ![] bcast_S_S2048 (id size)))
        (broadcastInDim S2048 ![] bcast_S_S2048 (constantI S_ 32 0#32))))
    (subi quo (broadcastInDim S2048 ![] bcast_S_S2048 (constantI S_ 32 1#32))) quo

/-- The block number of the query at each place of the mask. -/
def qb : IVec S2048x2048 32 :=
  broadcastInDim S2048x2048 ![0, 1] bcast_S2048x1_S2048x2048_0_1 (broadcastInDim S2048x1 ![0] bcast_S2048_S2048x1_0 blk)

/-- The block number of the key, in a row. -/
def kbRow : IVec S1x2048 32 := broadcastInDim S1x2048 ![1] bcast_S2048_S1x2048_1 blk

/-- The block number of the key at each place of the mask. -/
def kb : IVec S2048x2048 32 := broadcastInDim S2048x2048 ![0, 1] bcast_S1x2048_S2048x2048_0_1 kbRow

/-- A number at every place of the mask. -/
def all (w : IVec S_ 32) : IVec S2048x2048 32 := broadcastInDim S2048x2048 ![] bcast_S_S2048x2048 w

/-- The divisor three, as the remainder's expansion guards it. -/
def three : IVec S_ 32 :=
  select (cmpi .eq (id (constantI S_ 32 3#32)) (constantI S_ 32 0#32)) (constantI S_ 32 1#32) (id (constantI S_ 32 3#32))

/-- The remainder by three of the sum of the two block numbers. -/
def mod3 : IVec S2048x2048 32 :=
  have rem := Host.remsi (addi qb kb) (all three)
  select (andi (cmpi .ne (cmpi .slt rem (all (constantI S_ 32 0#32)))
        (broadcastInDim S2048x2048 ![] bcast_S_S2048x2048 (cmpi .slt three (constantI S_ 32 0#32))))
      (cmpi .ne rem (all (constantI S_ 32 0#32))))
    (addi rem (all three)) rem

/-- The mask: the keys each query attends to. -/
def mask : IVec S2048x2048 1 :=
  ori (ori (cmpi .eq qb kb) (broadcastInDim S2048x2048 ![0, 1] bcast_S1x2048_S2048x2048_0_1
      (cmpi .eq kbRow (broadcastInDim S1x2048 ![] bcast_S_S1x2048 (constantI S_ 32 0#32)))))
    (cmpi .eq mod3 (all (constantI S_ 32 0#32)))

/-- The rows with a key to attend to. -/
def keep : IVec S2048 1 := Host.reduce IntOp.ori mask (constantI S_ 1 0#1) reducesTo_S2048x2048_S2048_d1 h_S_

variable {F : FTy → Type} [FloatOps F]
variable (x : S1x2048x1024.Idx → Elt F .bf16) (wq : S1024x4096.Idx → Elt F .bf16)
  (k v : S1x2048x32x128.Idx → Elt F .bf16) (wo : S4096x1024.Idx → Elt F .bf16)

/-- The queries, head by head. -/
def queries : FVec F S1x2048x32x128 .bf16 :=
  shapeCast _ (truncf .bf16 (Host.dotGeneral dot_S1x2048x1024_S1024x4096_S1x2048x4096_2_0_01_1_n_n none x wq) bitsLt_bf16_f32)
    shapeCasts_S1x2048x4096_S1x2048x32x128

/-- The scaled scores. -/
def scores : FVec F S1x32x2048x2048 .f32 :=
  mulf (extf .f32 (truncf .bf16 (Host.dotGeneral dot_S1x2048x32x128_S1x2048x32x128_S1x32x2048x2048_3_3_1_1_02_02 none
      (queries x wq) k) bitsLt_bf16_f32) bitsLt_bf16_f32)
    (broadcastInDim S1x32x2048x2048 ![] bcast_S_S1x32x2048x2048 (constant S_ .f32 0x3DB504F3#32))

/-- The scores where the mask holds, and a large negative number elsewhere. -/
def masked : FVec F S1x32x2048x2048 .f32 :=
  select (broadcastInDim S1x32x2048x2048 ![0, 1, 2, 3] bcast_S1x1x2048x2048_S1x32x2048x2048_0_1_2_3
      (broadcastInDim S1x1x2048x2048 ![2, 3] bcast_S2048x2048_S1x1x2048x2048_2_3 mask))
    (scores x wq k) (broadcastInDim S1x32x2048x2048 ![] bcast_S_S1x32x2048x2048 (id (constant S_ .f32 0xCE6E6B28#32)))

/-- A row's number at each of its keys. -/
def along (r : FVec F S1x32x2048x1 .f32) : FVec F S1x32x2048x2048 .f32 :=
  broadcastInDim S1x32x2048x2048 ![0, 1, 2, 3] bcast_S1x32x2048x1_S1x32x2048x2048_0_1_2_3 r

/-- The exponentials of scores, each row's greatest subtracted first. -/
def expo (y : FVec F S1x32x2048x2048 .f32) : FVec F S1x32x2048x2048 .f32 :=
  Host.exp (subf y (along (broadcastInDim S1x32x2048x1 ![0, 1, 2] bcast_S1x32x2048_S1x32x2048x1_0_1_2
    (Host.reduce FloatOps.maximumf y (constant S_ .f32 0xFF800000#32) reducesTo_S1x32x2048x2048_S1x32x2048_d3 h_S_))))

/-- The rows with a key to attend to, at every head. -/
def keepRow : IVec S1x32x2048x1 1 :=
  broadcastInDim S1x32x2048x1 ![0, 1, 2, 3] bcast_S1x1x2048x1_S1x32x2048x1_0_1_2_3
    (broadcastInDim S1x1x2048x1 ![2] bcast_S2048_S1x1x2048x1_2 keep)

/-- The rows with a key to attend to, at every head and key. -/
def keepAt : IVec S1x32x2048x2048 1 :=
  broadcastInDim S1x32x2048x2048 ![0, 1, 2, 3] bcast_S1x1x2048x1_S1x32x2048x2048_0_1_2_3
    (broadcastInDim S1x1x2048x1 ![2] bcast_S2048_S1x1x2048x1_2 keep)

/-- The sum of each row, and one for a row with no key to attend to. -/
def total (y : FVec F S1x32x2048x2048 .f32) : FVec F S1x32x2048x1 .f32 :=
  select keepRow
    (broadcastInDim S1x32x2048x1 ![0, 1, 2] bcast_S1x32x2048_S1x32x2048x1_0_1_2
      (Host.reduceAdd y (constant S_ .f32 0x00000000#32) reducesTo_S1x32x2048x2048_S1x32x2048_d3 h_S_))
    (broadcastInDim S1x32x2048x1 ![] bcast_S_S1x32x2048x1 (id (constant S_ .f32 0x3F800000#32)))

/-- Exponentials over their row's sum. -/
def weights (y : FVec F S1x32x2048x2048 .f32) : FVec F S1x32x2048x2048 .f32 :=
  select keepAt (Host.divf y (along (total y)))
    (broadcastInDim S1x32x2048x2048 ![] bcast_S_S1x32x2048x2048 (id (constant S_ .f32 0x00000000#32)))

/-- The contexts of all heads, of given weights. -/
def ctx (w : FVec F S1x32x2048x2048 .f32) : FVec F S1x32x128x2048 .f32 :=
  Host.dotGeneral dot_S1x2048x32x128_S1x32x2048x2048_S1x32x128x2048_1_3_3_2_02_01 none (extf .f32 v bitsLt_bf16_f32) w

/-- The contexts through the output matrix. -/
def proj (z : FVec F S1x32x128x2048 .f32) : FVec F S1x2048x1024 .f32 :=
  Host.dotGeneral dot_S1x2048x4096_S4096x1024_S1x2048x1024_2_0_01_1_n_n none
    (shapeCast _ (transpose S1x2048x32x128 [0, 3, 1, 2] z transposes_S1x32x128x2048_S1x2048x32x128_0_3_1_2)
      shapeCasts_S1x2048x32x128_S1x2048x4096)
    (extf .f32 wo bitsLt_bf16_f32)

/-- The layer's output. -/
def out : FVec F S1x2048x1024 .f32 := proj wo (ctx v (weights (expo (masked x wq k))))

/-- The run's result is that output. -/
theorem res_eq (m : (ℓ : Loc nD τ sig) → Buf (Elt F) ℓ) (c : Dev nD) :
    Value.res_main_v49 m c = out (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := rfl

/-! ## The mask over words -/

/-- The sign of a word. -/
def sgnW (w : BitVec 32) : BitVec 32 := if w = 0 then 0 else if w.msb = true then -1 else 1

/-- A position over 64, rounded down, as the reference computes it on words. -/
def blkW (w : BitVec 32) : BitVec 32 :=
  Scalar.select (IntOp.andi (IntOp.cmpi .ne (sgnW w) (sgnW 64#32)) (IntOp.cmpi .ne (IntOp.remsi .host w 64#32) 0#32))
    (IntOp.subi (IntOp.divsi .host w 64#32) 1#32) (IntOp.divsi .host w 64#32)

theorem blkW_ofNat : ∀ n : Fin 2048, blkW (BitVec.ofNat 32 n) = BitVec.ofNat 32 (n / 64) := by decide +kernel

theorem blk_apply (r : Fin 2048) : blk (ix1 r) = BitVec.ofNat 32 (r / 64) := by
  refine Eq.trans ?_ (blkW_ofNat r)
  pointwise [blk]
  rfl

/-- The mask of two block numbers, as the reference computes it on words. -/
def keepW (a b : BitVec 32) : BitVec 1 :=
  have one := Scalar.select (IntOp.cmpi .eq 3#32 0#32) 1#32 3#32
  have rem := IntOp.remsi .host (IntOp.addi a b) one
  IntOp.ori (IntOp.ori (IntOp.cmpi .eq a b) (IntOp.cmpi .eq b 0#32))
    (IntOp.cmpi .eq (Scalar.select
      (IntOp.andi (IntOp.cmpi .ne (IntOp.cmpi .slt rem 0#32) (IntOp.cmpi .slt one 0#32)) (IntOp.cmpi .ne rem 0#32))
      (IntOp.addi rem one) rem) 0#32)

theorem keepW_ofNat : ∀ a b : Fin 32, keepW (BitVec.ofNat 32 a) (BitVec.ofNat 32 b)
    = BitVec.ofBool (decide (a.val = b.val ∨ b.val = 0 ∨ (a.val + b.val) % 3 = 0)) := by decide +kernel

theorem mask_apply (r j : Fin 2048) : mask (ix2 r j) = keeps r j := by
  have hr := r.isLt
  have hj := j.isLt
  have h : mask (ix2 r j) = keepW (blk (ix1 r)) (blk (ix1 j)) := by
    pointwise [mask, mod3, all, three, kb, kbRow, qb]
    rfl
  rw [h, blk_apply, blk_apply]
  exact keepW_ofNat ⟨r / 64, by omega⟩ ⟨j / 64, by omega⟩

/-- Every query attends to some key: to the first. -/
theorem keep_apply (r : Fin 2048) : keep (ix1 r) = 1#1 := by
  pointwise [keep]
  refine (Routing.fold_ori _ _).mpr ⟨0, Finset.mem_univ _, ?_⟩
  rw [mask_apply]
  simp [keeps]

/-! ## The value at an index, over the extended reals -/

/-- A row's greatest entry, by the host. -/
theorem rowMax_apply (y : FVec Ideal S1x32x2048x2048 .f32) (h : Fin 32) (r : Fin 2048) :
    Host.reduce FloatOps.maximumf y (constant S_ .f32 0xFF800000#32) reducesTo_S1x32x2048x2048_S1x32x2048_d3 h_S_ (ix3 0 h r)
      = peak fun j => y (ix4 0 h r j) := by
  pointwise
  rfl

/-- A row's sum, by the host. -/
theorem rowSum_apply (y : FVec Ideal S1x32x2048x2048 .f32) (h : Fin 32) (r : Fin 2048) :
    Host.reduceAdd y (constant S_ .f32 0x00000000#32) reducesTo_S1x32x2048x2048_S1x32x2048_d3 h_S_ (ix3 0 h r)
      = ∑ j, y (ix4 0 h r j) := by
  have hs : S1x32x2048x2048.Reduces [3] S1x32x2048 := by decide
  refine (Ideal.hostReduceAdd_single reducesTo_S1x32x2048x2048_S1x32x2048_d3 hs y _ (ix3 0 h r)).trans ?_
  rw [show (constant (F := Ideal) S_ .f32 0x00000000#32) (Shape.Idx.first h_S_) = (0 : EReal) from Ideal.ofBits_zero_f32, zero_add]
  refine Finset.sum_congr rfl fun j _ => congrArg y ?_
  funext a
  match a with
  | ⟨0, _⟩ => rfl
  | ⟨1, _⟩ => rfl
  | ⟨2, _⟩ => rfl
  | ⟨3, _⟩ => rfl

theorem expo_apply (y : FVec Ideal S1x32x2048x2048 .f32) (h : Fin 32) (r j : Fin 2048) :
    expo y (ix4 0 h r j) = Attend.expo (fun j => y (ix4 0 h r j)) j := by
  unfold Attend.expo
  rw [← rowMax_apply]
  unfold expo
  generalize Host.reduce FloatOps.maximumf y _ _ _ = z
  pointwise [along]

theorem keepRow_apply (h : Fin 32) (r : Fin 2048) : keepRow (ix4 0 h r 0) = 1#1 := by
  refine Eq.trans ?_ (keep_apply r)
  unfold keepRow
  generalize keep = z
  pointwise

theorem keepAt_apply (h : Fin 32) (r j : Fin 2048) : keepAt (ix4 0 h r j) = 1#1 := by
  refine Eq.trans ?_ (keep_apply r)
  unfold keepAt
  generalize keep = z
  pointwise

theorem total_apply (y : FVec Ideal S1x32x2048x2048 .f32) (h : Fin 32) (r : Fin 2048) :
    total y (ix4 0 h r 0) = ∑ j, y (ix4 0 h r j) := by
  have hk := keepRow_apply h r
  rw [← rowSum_apply]
  unfold total
  generalize Host.reduceAdd y _ _ _ = z
  generalize keepRow = kp at hk ⊢
  pointwise
  rw [hk]
  rfl

/-- A choice between two arrays where the first is chosen. -/
theorem select_apply {s : Shape} {α : Type} (p : IVec s 1) (a b : s.Idx → α) (i : s.Idx) (h : p i = 1#1) :
    select p a b i = a i := if_pos h

theorem over_apply (y : FVec Ideal S1x32x2048x2048 .f32) (z : FVec Ideal S1x32x2048x1 .f32) (h : Fin 32) (r j : Fin 2048) :
    Host.divf y (along z) (ix4 0 h r j) = Ideal.div (y (ix4 0 h r j)) (z (ix4 0 h r 0)) := by
  pointwise [along]

theorem weights_apply (y : FVec Ideal S1x32x2048x2048 .f32) (h : Fin 32) (r j : Fin 2048) :
    weights y (ix4 0 h r j) = Ideal.div (y (ix4 0 h r j)) (∑ j, y (ix4 0 h r j)) := by
  have hk := keepAt_apply h r j
  rw [← total_apply, ← over_apply]
  unfold weights
  generalize along (total y) = z
  generalize (broadcastInDim S1x32x2048x2048 ![] bcast_S_S1x32x2048x2048 (id (constant (F := Ideal) S_ .f32 0x00000000#32))) = o
  rw [select_apply _ _ _ _ hk]

section Value

variable (x : S1x2048x1024.Idx → EReal) (wq : S1024x4096.Idx → EReal)
  (k v : S1x2048x32x128.Idx → EReal) (wo : S4096x1024.Idx → EReal)

/-- Column `e` of head `h`. -/
abbrev col (h : Fin 32) (e : Fin 128) : Fin 4096 := ⟨h * 128 + e, by omega⟩

/-- The masked scores of query `r` of head `h`. -/
abbrev rowOf (h : Fin 32) (r j : Fin 2048) : EReal :=
  Scalar.select (keeps r j) (score (fun r i => x (ix3 0 r i)) (fun i e => wq (ix2 i (col h e))) (fun j e => k (ix4 0 j h e)) r j) low

theorem masked_apply (h : Fin 32) (r j : Fin 2048) :
    masked (F := Ideal) x wq k (ix4 0 h r j) = rowOf x wq k h r j := by
  pointwise [masked, scores, queries]
  rw [mask_apply]
  rfl

theorem ctx_apply (w : FVec Ideal S1x32x2048x2048 .f32) (h : Fin 32) (d : Fin 128) (r : Fin 2048) :
    ctx (F := Ideal) v w (ix4 0 h d r) = ∑ j, v (ix4 0 j h d) * w (ix4 0 h r j) := by
  pointwise [ctx]

theorem proj_apply (z : FVec Ideal S1x32x128x2048 .f32) (r : Fin 2048) (q : Fin 1024) :
    proj (F := Ideal) wo z (ix3 0 r q)
      = ∑ p : Fin 4096, z (ix4 0 ⟨p / 128, by omega⟩ ⟨p % 128, Nat.mod_lt _ (by decide)⟩ r) * wo (ix2 p q) := by
  pointwise [proj]

/-- The context of query `r` of head `h`. -/
abbrev ctxOf (h : Fin 32) (r : Fin 2048) (d : Fin 128) : EReal :=
  context (fun r i => x (ix3 0 r i)) (fun i e => wq (ix2 i (col h e))) (fun j e => k (ix4 0 j h e)) (fun j e => v (ix4 0 j h e)) r d

theorem out_apply (r : Fin 2048) (q : Fin 1024) :
    out (F := Ideal) x wq k v wo (ix3 0 r q)
      = ∑ p : Fin 4096, ctxOf x wq k v ⟨p / 128, by omega⟩ r ⟨p % 128, Nat.mod_lt _ (by decide)⟩ * wo (ix2 p q) := by
  unfold out
  rw [proj_apply]
  refine Finset.sum_congr rfl fun p _ => congrArg (· * wo (ix2 p q)) ?_
  rw [ctx_apply]
  refine Finset.sum_congr rfl fun j _ => (mul_comm _ _).trans (congrArg (· * _) ?_)
  rw [weights_apply]
  simp only [expo_apply, masked_apply]
  rfl

end Value

end Ref
end Cert.Proof
end
-- ==== Proof.Value.lean ====
/-
  The device's sum of partial products is the reference's output: device `e` holds heads `8 e … 8 e + 7`, that is, rows
  `1024 e … 1024 e + 1023` of the output matrix, so the sum over the devices and their rows is the sum over all rows.
-/
module

public import proofs.«01_k».proof.Proof.Reads
public import proofs.«01_k».proof.Proof.RefValue

@[expose] public section

noncomputable section

namespace Cert.Proof

open Cert.KernelIdeal Cert.KernelIdeal.Gen
open Idealize.ShloMosaic
open Idealize.ShloMosaic.TcCoe

theorem block_cols (v : (⟨2, ![1024, 4096]⟩ : Shape).Idx → EReal) (e : Fin 4) (i p : Fin 1024) :
    Layout.block ⟨2, ![1024, 1024]⟩ ⟨2, ![1024, 4096]⟩ 1 4 e v (by decide) (ix2 i p) = v (ix2 i ⟨1024 * e + p, by omega⟩) :=
  congrArg v (funext fun a => match a with
    | ⟨0, _⟩ => rfl
    | ⟨1, _⟩ => Fin.ext (congrArg (· + p.val) (Nat.mul_comm e.val 1024)))

theorem block_rows (v : (⟨2, ![4096, 1024]⟩ : Shape).Idx → EReal) (e : Fin 4) (p q : Fin 1024) :
    Layout.block ⟨2, ![1024, 1024]⟩ ⟨2, ![4096, 1024]⟩ 0 4 e v (by decide) (ix2 p q) = v (ix2 ⟨1024 * e + p, by omega⟩ q) :=
  congrArg v (funext fun a => match a with
    | ⟨0, _⟩ => Fin.ext (congrArg (· + p.val) (Nat.mul_comm e.val 1024))
    | ⟨1, _⟩ => rfl)

/-- A sum over all rows, device by device. -/
theorem sum_rows (f : Fin 4096 → EReal) : ∑ p, f p = ∑ e : Fin 4, ∑ p : Fin 1024, f ⟨1024 * e + p, by omega⟩ := by
  rw [← Fintype.sum_prod_type']
  refine (Equiv.sum_comp (finProdFinEquiv (m := 4) (n := 1024)) f).symm.trans (Finset.sum_congr rfl fun x _ => congrArg f (Fin.ext ?_))
  exact Nat.add_comm _ _

/-- Results are equal when they agree at every row and column. -/
theorem ext3 {f g : S1x2048x1024.Idx → EReal} (h : ∀ r q, f (ix3 0 r q) = g (ix3 0 r q)) : f = g := funext fun i => by
  have e : i = ix3 (0 : Fin 1) (i (1 : Fin 3)) (i (2 : Fin 3)) := funext fun a => match a with
    | ⟨0, _⟩ => Subsingleton.elim (α := Fin 1) _ _
    | ⟨1, _⟩ => rfl
    | ⟨2, _⟩ => rfl
  rw [e]
  exact h _ _

variable (x : Cert.ReferenceIdeal.S1x2048x1024.Idx → EReal) (wq : Cert.ReferenceIdeal.S1024x4096.Idx → EReal)
  (k v : Cert.ReferenceIdeal.S1x2048x32x128.Idx → EReal) (wo : Cert.ReferenceIdeal.S4096x1024.Idx → EReal)

variable (m : (ℓ : Loc nD τ sig) → Buf (Elt Ideal) ℓ)

/-- The devices hold their parts of the reference's arguments. -/
def Holds : Prop := ∀ c : Dev nD,
  m ((c.tc : Thread nD τ).loc main_arg0) = x
  ∧ m ((c.tc : Thread nD τ).loc main_arg1) = Layout.block ⟨2, ![1024, 1024]⟩ ⟨2, ![1024, 4096]⟩ 1 4 c wq
  ∧ m ((c.tc : Thread nD τ).loc main_arg2) = k
  ∧ m ((c.tc : Thread nD τ).loc main_arg3) = v
  ∧ m ((c.tc : Thread nD τ).loc main_arg4) = Layout.block ⟨2, ![1024, 1024]⟩ ⟨2, ![4096, 1024]⟩ 0 4 c wo

variable (hm : Holds x wq k v wo m)
include hm

/-- Device `e`'s head `h` is head `8 e + h`. -/
theorem headCtx_eq (e : Fin 4) (h : ℕ) (hh : h < 8) (r : Fin 2048) (d : Fin 128) :
    headCtx (xIn m e) (wqIn m e) (kIn m e) (vIn m e) h hh r d = Ref.ctxOf x wq k v ⟨8 * e + h, by omega⟩ r d := by
  obtain ⟨h0, h1, h2, h3, -⟩ := hm e
  have a0 : (fun r i => xIn m e (ix2 r i)) = fun r i => x (ix3 0 r i) :=
    funext fun r => funext fun i => (xIn_apply m e r i).trans (congrFun h0 _)
  have a1 : (fun (i : Fin 1024) (s : Fin 128) => wqIn m e (ix2 i ⟨128 * h + s, by omega⟩))
      = fun i s => wq (ix2 i (Ref.col ⟨8 * e + h, by omega⟩ s)) :=
    funext fun i => funext fun s => (congrFun ((wqIn_eq m e).trans h1) _).trans
      ((block_cols wq e i ⟨128 * h + s, by omega⟩).trans (congrArg (fun p => wq (ix2 i p)) (Fin.ext (by dsimp only; omega))))
  have a2 : (fun j s => kIn m e (ix3 ⟨h, hh⟩ j s)) = fun j s => k (ix4 0 j ⟨8 * e + h, by omega⟩ s) :=
    funext fun j => funext fun s => (kIn_apply m e ⟨h, hh⟩ j s).trans (congrFun h2 _)
  have a3 : (fun j s => vIn m e (ix3 ⟨h, hh⟩ j s)) = fun j s => v (ix4 0 j ⟨8 * e + h, by omega⟩ s) :=
    funext fun j => funext fun s => (vIn_apply m e ⟨h, hh⟩ j s).trans (congrFun h3 _)
  unfold headCtx
  rw [a0, a1, a2, a3]

theorem part_eq (e : Fin 4) (r : Fin 2048) (q : Fin 1024) :
    partOf m e (ix2 r q) = (∑ p : Fin 1024, Ref.ctxOf x wq k v ⟨(1024 * e + p) / 128, by omega⟩ r
      ⟨(1024 * e + p) % 128, Nat.mod_lt _ (by decide)⟩ * wo (ix2 ⟨1024 * e + p, by omega⟩ q) : EReal) := by
  refine (partialOut_apply (xIn m e) (wqIn m e) (kIn m e) (vIn m e) (woIn m e) r q).trans (Finset.sum_congr rfl fun p _ => ?_)
  rw [headCtx_eq x wq k v wo m hm]
  have hw : woIn m e (ix2 p q) = wo (ix2 ⟨1024 * e + p, by omega⟩ q) :=
    (congrFun ((woIn_eq m e).trans (hm e).2.2.2.2) _).trans (block_rows wo e p q)
  have hd : (⟨8 * e + p / 128, by omega⟩ : Fin 32) = ⟨(1024 * e + p) / 128, by omega⟩ := Fin.ext (by dsimp only; omega)
  have hr : (⟨p % 128, Nat.mod_lt _ (by decide)⟩ : Fin 128) = ⟨(1024 * e + p) % 128, Nat.mod_lt _ (by decide)⟩ :=
    Fin.ext (by dsimp only; omega)
  rw [hw, hd, hr]

theorem value_apply (r : Fin 2048) (q : Fin 1024) :
    (∑ e, partOf m e (ix2 r q) : EReal) = ∑ p : Fin 4096, Ref.ctxOf x wq k v ⟨p / 128, by omega⟩ r
      ⟨p % 128, Nat.mod_lt _ (by decide)⟩ * wo (ix2 p q) := by
  rw [sum_rows]
  exact Finset.sum_congr rfl fun e _ => part_eq x wq k v wo m hm e r q

/-- Every device's result is the reference's output. -/
theorem result_eq (c : Dev nD) : V3 m (outs m) c main_v21 = Ref.out (F := Ideal) x wq k v wo :=
  ext3 fun r q => (result_apply m c r q).trans ((value_apply x wq k v wo m hm r q).trans (Ref.out_apply x wq k v wo r q).symm)

end Cert.Proof
end
-- ==== Proof.lean ====
/-
  The claims of this directory, put together: the frames of the kernel, of its idealization and of the reference; that the
  idealization is the kernel's own text; and that over the extended reals the kernel computes the reference's output.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Run
public import proofs.«01_k».proof.Proof.Value
public import Idealize.ShloMosaic.Adequacy
public import Idealize.ShloMosaic.Init

@[expose] public section

noncomputable section

namespace Cert.Proof

open Idealize.ShloMosaic Idealize.SL.Sem

/-- The kernel and its idealization have one text, so the tables of their bodies are equal. -/
theorem bodies_eq : Cert.Kernel.defs₀ (F := Bits) = Cert.KernelIdeal.defs₀ (F := Bits) := by
  unfold Cert.Kernel.defs₀ Cert.KernelIdeal.defs₀
  congr 1
  funext l x
  obtain ⟨_ | n, h⟩ := l
  · obtain ⟨t, s⟩ := x
    rfl
  · exact absurd h (Nat.not_lt.2 (Nat.le_add_left _ _))

theorem defs_eq : Cert.Kernel.defs (F := Bits) = Cert.KernelIdeal.defs (F := Bits) := by
  unfold Cert.Kernel.defs Cert.KernelIdeal.defs
  exact congrArg (Pipeline.defs _) bodies_eq

/-- The kernel's frame at the machine's floats. -/
theorem frame_kernel : Cert.quiescent_Kernel := fun m ρ _ => by
  rw [defs_eq]
  exact kept_main (F := Bits) m ρ

/-- The idealized kernel's frame. -/
theorem frame_ideal : Cert.quiescent_KernelIdeal := fun m ρ _ => kept_main (F := Ideal) m ρ

/-- The reference runs on the host alone: it has no semaphore. -/
theorem no_counter : ∀ sm : SemLoc Cert.ReferenceIdeal.sig, False := by
  rintro (s | s) <;> exact nomatch s

theorem frame_reference : Cert.quiescent_ReferenceIdeal := fun m ρ _ =>
  (θ_run Cert.ReferenceIdeal.defs _ _).mono (fun _ h => ⟨fun c => (h c).2, funext fun g => (no_counter g.2).elim⟩)
    (Cert.ReferenceIdeal.Value.run (F := Ideal) m ρ)

/-- The kernel computes the reference's output, over the extended reals. -/
theorem algebraic : Cert.algebraic_KernelIdeal_ReferenceIdeal := fun m g m' g' _ hm =>
  ⟨Cert.ReferenceIdeal.Value.res_main_v49 m' 0,
    (θ_run Cert.KernelIdeal.defs _ _).mono (fun _ h c =>
      have e := h.1 c
      ⟨e.2.2.2.2.2.trans ((result_eq _ _ _ _ _ m hm c).trans (Ref.res_eq m' 0).symm),
        e.1, e.2.1, e.2.2.1, e.2.2.2.1, e.2.2.2.2.1⟩) (run_main (F := Ideal) m g),
    (θ_run Cert.ReferenceIdeal.defs _ _).mono (fun _ h => h 0) (Cert.ReferenceIdeal.Value.run (F := Ideal) m' g')⟩

theorem claim : Cert.Claim := ⟨Cert.Kernel.Gen.facts, Cert.KernelIdeal.Gen.facts, Cert.ReferenceIdeal.Gen.facts,
  frame_kernel, frame_ideal, frame_reference, trivial, algebraic⟩

end Cert.Proof

end
